-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x256 : Shape := ⟨3, ![3, 256, 256]⟩
abbrev S3x7x256x256 : Shape := ⟨4, ![3, 7, 256, 256]⟩
abbrev S3 : Shape := ⟨1, ![3]⟩
abbrev S_ : Shape := ⟨0, ![]⟩
abbrev S1x256x256 : Shape := ⟨3, ![1, 256, 256]⟩
abbrev S1 : Shape := ⟨1, ![1]⟩
abbrev S1x1x256x256 : Shape := ⟨4, ![1, 1, 256, 256]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S3x256x256, .bf16⟩
  | .local _ .vmem, ⟨9, _⟩ => ⟨S3x7x256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v110 : BitVec 32 := Scalar.addi v2 c1_i32_74
  let c8_i32_75 : BitVec 32 := 8#32
  let c0_i32_76 : BitVec 32 := 0#32
  let v111 : BitVec 1 := Scalar.cmpi .eq c8_i32_75 c0_i32_76
  let c1_i32_77 : BitVec 32 := 1#32
  let v112 : BitVec 32 := Scalar.select v111 c1_i32_77 c8_i32_75
  let v113 : BitVec 32 := Scalar.remsi v110 v112
  let c0_i32_79 : BitVec 32 := 0#32
  let v115 : BitVec 1 := Scalar.cmpi .slt v113 c0_i32_79
  let c0_i32_80 : BitVec 32 := 0#32
  let v116 : BitVec 1 := Scalar.cmpi .slt v112 c0_i32_80
  let v117 : BitVec 1 := Scalar.xori v115 v116
  let c0_i32_78 : BitVec 32 := 0#32
  let v114 : BitVec 1 := Scalar.cmpi .ne v113 c0_i32_78
  let v118 : BitVec 1 := Scalar.andi v117 v114
  let v119 : BitVec 32 := Scalar.addi v113 v112
  let v120 : BitVec 32 := Scalar.select v118 v119 v113
  let c1_i32_86 : BitVec 32 := 1#32
  let v121 : BitVec 32 := Scalar.muli v120 c1_i32_86
  let v122 : BitVec 32 := Scalar.addi c0_i32_87 v121
  v122.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_92 : BitVec 32 := 2#32
  let v131 : BitVec 32 := Scalar.addi v2 c2_i32_92
  let c8_i32_93 : BitVec 32 := 8#32
  let c0_i32_94 : BitVec 32 := 0#32
  let v132 : BitVec 1 := Scalar.cmpi .eq c8_i32_93 c0_i32_94
  let c1_i32_95 : BitVec 32 := 1#32
  let v133 : BitVec 32 := Scalar.select v132 c1_i32_95 c8_i32_93
  let v134 : BitVec 32 := Scalar.remsi v131 v133
  let c0_i32_97 : BitVec 32 := 0#32
  let v136 : BitVec 1 := Scalar.cmpi .slt v134 c0_i32_97
  let c0_i32_98 : BitVec 32 := 0#32
  let v137 : BitVec 1 := Scalar.cmpi .slt v133 c0_i32_98
  let v138 : BitVec 1 := Scalar.xori v136 v137
  let c0_i32_96 : BitVec 32 := 0#32
  let v135 : BitVec 1 := Scalar.cmpi .ne v134 c0_i32_96
  let v139 : BitVec 1 := Scalar.andi v138 v135
  let v140 : BitVec 32 := Scalar.addi v134 v133
  let v141 : BitVec 32 := Scalar.select v139 v140 v134
  let c1_i32_104 : BitVec 32 := 1#32
  let v142 : BitVec 32 := Scalar.muli v141 c1_i32_104
  let v143 : BitVec 32 := Scalar.addi c0_i32_105 v142
  v143.toNat
def k0_dev10 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v152 : BitVec 32 := Scalar.addi v2 c3_i32_110
  let c8_i32_111 : BitVec 32 := 8#32
  let c0_i32_112 : BitVec 32 := 0#32
  let v153 : BitVec 1 := Scalar.cmpi .eq c8_i32_111 c0_i32_112
  let c1_i32_113 : BitVec 32 := 1#32
  let v154 : BitVec 32 := Scalar.select v153 c1_i32_113 c8_i32_111
  let v155 : BitVec 32 := Scalar.remsi v152 v154
  let c0_i32_115 : BitVec 32 := 0#32
  let v157 : BitVec 1 := Scalar.cmpi .slt v155 c0_i32_115
  let c0_i32_116 : BitVec 32 := 0#32
  let v158 : BitVec 1 := Scalar.cmpi .slt v154 c0_i32_116
  let v159 : BitVec 1 := Scalar.xori v157 v158
  let c0_i32_114 : BitVec 32 := 0#32
  let v156 : BitVec 1 := Scalar.cmpi .ne v155 c0_i32_114
  let v160 : BitVec 1 := Scalar.andi v159 v156
  let v161 : BitVec 32 := Scalar.addi v155 v154
  let v162 : BitVec 32 := Scalar.select v160 v161 v155
  let c1_i32_122 : BitVec 32 := 1#32
  let v163 : BitVec 32 := Scalar.muli v162 c1_i32_122
  let v164 : BitVec 32 := Scalar.addi c0_i32_123 v163
  v164.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v173 : BitVec 32 := Scalar.addi v2 c4_i32_128
  let c8_i32_129 : BitVec 32 := 8#32
  let c0_i32_130 : BitVec 32 := 0#32
  let v174 : BitVec 1 := Scalar.cmpi .eq c8_i32_129 c0_i32_130
  let c1_i32_131 : BitVec 32 := 1#32
  let v175 : BitVec 32 := Scalar.select v174 c1_i32_131 c8_i32_129
  let v176 : BitVec 32 := Scalar.remsi v173 v175
  let c0_i32_133 : BitVec 32 := 0#32
  let v178 : BitVec 1 := Scalar.cmpi .slt v176 c0_i32_133
  let c0_i32_134 : BitVec 32 := 0#32
  let v179 : BitVec 1 := Scalar.cmpi .slt v175 c0_i32_134
  let v180 : BitVec 1 := Scalar.xori v178 v179
  let c0_i32_132 : BitVec 32 := 0#32
  let v177 : BitVec 1 := Scalar.cmpi .ne v176 c0_i32_132
  let v181 : BitVec 1 := Scalar.andi v180 v177
  let v182 : BitVec 32 := Scalar.addi v176 v175
  let v183 : BitVec 32 := Scalar.select v181 v182 v176
  let c1_i32_140 : BitVec 32 := 1#32
  let v184 : BitVec 32 := Scalar.muli v183 c1_i32_140
  let v185 : BitVec 32 := Scalar.addi c0_i32_141 v184
  v185.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v194 : BitVec 32 := Scalar.addi v2 c5_i32_146
  let c8_i32_147 : BitVec 32 := 8#32
  let c0_i32_148 : BitVec 32 := 0#32
  let v195 : BitVec 1 := Scalar.cmpi .eq c8_i32_147 c0_i32_148
  let c1_i32_149 : BitVec 32 := 1#32
  let v196 : BitVec 32 := Scalar.select v195 c1_i32_149 c8_i32_147
  let v197 : BitVec 32 := Scalar.remsi v194 v196
  let c0_i32_151 : BitVec 32 := 0#32
  let v199 : BitVec 1 := Scalar.cmpi .slt v197 c0_i32_151
  let c0_i32_152 : BitVec 32 := 0#32
  let v200 : BitVec 1 := Scalar.cmpi .slt v196 c0_i32_152
  let v201 : BitVec 1 := Scalar.xori v199 v200
  let c0_i32_150 : BitVec 32 := 0#32
  let v198 : BitVec 1 := Scalar.cmpi .ne v197 c0_i32_150
  let v202 : BitVec 1 := Scalar.andi v201 v198
  let v203 : BitVec 32 := Scalar.addi v197 v196
  let v204 : BitVec 32 := Scalar.select v202 v203 v197
  let c1_i32_158 : BitVec 32 := 1#32
  let v205 : BitVec 32 := Scalar.muli v204 c1_i32_158
  let v206 : BitVec 32 := Scalar.addi c0_i32_159 v205
  v206.toNat
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_164 : BitVec 32 := 6#32
  let v215 : BitVec 32 := Scalar.addi v2 c6_i32_164
  let c8_i32_165 : BitVec 32 := 8#32
  let c0_i32_166 : BitVec 32 := 0#32
  let v216 : BitVec 1 := Scalar.cmpi .eq c8_i32_165 c0_i32_166
  let c1_i32_167 : BitVec 32 := 1#32
  let v217 : BitVec 32 := Scalar.select v216 c1_i32_167 c8_i32_165
  let v218 : BitVec 32 := Scalar.remsi v215 v217
  let c0_i32_169 : BitVec 32 := 0#32
  let v220 : BitVec 1 := Scalar.cmpi .slt v218 c0_i32_169
  let c0_i32_170 : BitVec 32 := 0#32
  let v221 : BitVec 1 := Scalar.cmpi .slt v217 c0_i32_170
  let v222 : BitVec 1 := Scalar.xori v220 v221
  let c0_i32_168 : BitVec 32 := 0#32
  let v219 : BitVec 1 := Scalar.cmpi .ne v218 c0_i32_168
  let v223 : BitVec 1 := Scalar.andi v222 v219
  let v224 : BitVec 32 := Scalar.addi v218 v217
  let v225 : BitVec 32 := Scalar.select v223 v224 v218
  let c1_i32_176 : BitVec 32 := 1#32
  let v226 : BitVec 32 := Scalar.muli v225 c1_i32_176
  let v227 : BitVec 32 := Scalar.addi c0_i32_177 v226
  v227.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_182 : BitVec 32 := 7#32
  let v236 : BitVec 32 := Scalar.addi v2 c7_i32_182
  let c8_i32_183 : BitVec 32 := 8#32
  let c0_i32_184 : BitVec 32 := 0#32
  let v237 : BitVec 1 := Scalar.cmpi .eq c8_i32_183 c0_i32_184
  let c1_i32_185 : BitVec 32 := 1#32
  let v238 : BitVec 32 := Scalar.select v237 c1_i32_185 c8_i32_183
  let v239 : BitVec 32 := Scalar.remsi v236 v238
  let c0_i32_187 : BitVec 32 := 0#32
  let v241 : BitVec 1 := Scalar.cmpi .slt v239 c0_i32_187
  let c0_i32_188 : BitVec 32 := 0#32
  let v242 : BitVec 1 := Scalar.cmpi .slt v238 c0_i32_188
  let v243 : BitVec 1 := Scalar.xori v241 v242
  let c0_i32_186 : BitVec 32 := 0#32
  let v240 : BitVec 1 := Scalar.cmpi .ne v239 c0_i32_186
  let v244 : BitVec 1 := Scalar.andi v243 v240
  let v245 : BitVec 32 := Scalar.addi v239 v238
  let v246 : BitVec 32 := Scalar.select v244 v245 v239
  let c1_i32_194 : BitVec 32 := 1#32
  let v247 : BitVec 32 := Scalar.muli v246 c1_i32_194
  let v248 : BitVec 32 := Scalar.addi c0_i32_195 v247
  v248.toNat
def k0_dev15 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_379 : BitVec 32 := 1#32
  let v397 : BitVec 32 := Scalar.addi v2 c1_i32_379
  let c8_i32_380 : BitVec 32 := 8#32
  let c0_i32_381 : BitVec 32 := 0#32
  let v398 : BitVec 1 := Scalar.cmpi .eq c8_i32_380 c0_i32_381
  let c1_i32_382 : BitVec 32 := 1#32
  let v399 : BitVec 32 := Scalar.select v398 c1_i32_382 c8_i32_380
  let v400 : BitVec 32 := Scalar.remsi v397 v399
  let c0_i32_384 : BitVec 32 := 0#32
  let v402 : BitVec 1 := Scalar.cmpi .slt v400 c0_i32_384
  let c0_i32_385 : BitVec 32 := 0#32
  let v403 : BitVec 1 := Scalar.cmpi .slt v399 c0_i32_385
  let v404 : BitVec 1 := Scalar.xori v402 v403
  let c0_i32_383 : BitVec 32 := 0#32
  let v401 : BitVec 1 := Scalar.cmpi .ne v400 c0_i32_383
  let v405 : BitVec 1 := Scalar.andi v404 v401
  let v406 : BitVec 32 := Scalar.addi v400 v399
  let v407 : BitVec 32 := Scalar.select v405 v406 v400
  let c1_i32_391 : BitVec 32 := 1#32
  let v408 : BitVec 32 := Scalar.muli v407 c1_i32_391
  let v409 : BitVec 32 := Scalar.addi c0_i32_392 v408
  v409.toNat
def k0_dev16 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_397 : BitVec 32 := 2#32
  let v418 : BitVec 32 := Scalar.addi v2 c2_i32_397
  let c8_i32_398 : BitVec 32 := 8#32
  let c0_i32_399 : BitVec 32 := 0#32
  let v419 : BitVec 1 := Scalar.cmpi .eq c8_i32_398 c0_i32_399
  let c1_i32_400 : BitVec 32 := 1#32
  let v420 : BitVec 32 := Scalar.select v419 c1_i32_400 c8_i32_398
  let v421 : BitVec 32 := Scalar.remsi v418 v420
  let c0_i32_402 : BitVec 32 := 0#32
  let v423 : BitVec 1 := Scalar.cmpi .slt v421 c0_i32_402
  let c0_i32_403 : BitVec 32 := 0#32
  let v424 : BitVec 1 := Scalar.cmpi .slt v420 c0_i32_403
  let v425 : BitVec 1 := Scalar.xori v423 v424
  let c0_i32_401 : BitVec 32 := 0#32
  let v422 : BitVec 1 := Scalar.cmpi .ne v421 c0_i32_401
  let v426 : BitVec 1 := Scalar.andi v425 v422
  let v427 : BitVec 32 := Scalar.addi v421 v420
  let v428 : BitVec 32 := Scalar.select v426 v427 v421
  let c1_i32_409 : BitVec 32 := 1#32
  let v429 : BitVec 32 := Scalar.muli v428 c1_i32_409
  let v430 : BitVec 32 := Scalar.addi c0_i32_410 v429
  v430.toNat
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_415 : BitVec 32 := 3#32
  let v439 : BitVec 32 := Scalar.addi v2 c3_i32_415
  let c8_i32_416 : BitVec 32 := 8#32
  let c0_i32_417 : BitVec 32 := 0#32
  let v440 : BitVec 1 := Scalar.cmpi .eq c8_i32_416 c0_i32_417
  let c1_i32_418 : BitVec 32 := 1#32
  let v441 : BitVec 32 := Scalar.select v440 c1_i32_418 c8_i32_416
  let v442 : BitVec 32 := Scalar.remsi v439 v441
  let c0_i32_420 : BitVec 32 := 0#32
  let v444 : BitVec 1 := Scalar.cmpi .slt v442 c0_i32_420
  let c0_i32_421 : BitVec 32 := 0#32
  let v445 : BitVec 1 := Scalar.cmpi .slt v441 c0_i32_421
  let v446 : BitVec 1 := Scalar.xori v444 v445
  let c0_i32_419 : BitVec 32 := 0#32
  let v443 : BitVec 1 := Scalar.cmpi .ne v442 c0_i32_419
  let v447 : BitVec 1 := Scalar.andi v446 v443
  let v448 : BitVec 32 := Scalar.addi v442 v441
  let v449 : BitVec 32 := Scalar.select v447 v448 v442
  let c1_i32_427 : BitVec 32 := 1#32
  let v450 : BitVec 32 := Scalar.muli v449 c1_i32_427
  let v451 : BitVec 32 := Scalar.addi c0_i32_428 v450
  v451.toNat
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_433 : BitVec 32 := 4#32
  let v460 : BitVec 32 := Scalar.addi v2 c4_i32_433
  let c8_i32_434 : BitVec 32 := 8#32
  let c0_i32_435 : BitVec 32 := 0#32
  let v461 : BitVec 1 := Scalar.cmpi .eq c8_i32_434 c0_i32_435
  let c1_i32_436 : BitVec 32 := 1#32
  let v462 : BitVec 32 := Scalar.select v461 c1_i32_436 c8_i32_434
  let v463 : BitVec 32 := Scalar.remsi v460 v462
  let c0_i32_438 : BitVec 32 := 0#32
  let v465 : BitVec 1 := Scalar.cmpi .slt v463 c0_i32_438
  let c0_i32_439 : BitVec 32 := 0#32
  let v466 : BitVec 1 := Scalar.cmpi .slt v462 c0_i32_439
  let v467 : BitVec 1 := Scalar.xori v465 v466
  let c0_i32_437 : BitVec 32 := 0#32
  let v464 : BitVec 1 := Scalar.cmpi .ne v463 c0_i32_437
  let v468 : BitVec 1 := Scalar.andi v467 v464
  let v469 : BitVec 32 := Scalar.addi v463 v462
  let v470 : BitVec 32 := Scalar.select v468 v469 v463
  let c1_i32_445 : BitVec 32 := 1#32
  let v471 : BitVec 32 := Scalar.muli v470 c1_i32_445
  let v472 : BitVec 32 := Scalar.addi c0_i32_446 v471
  v472.toNat
def k0_dev19 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_451 : BitVec 32 := 5#32
  let v481 : BitVec 32 := Scalar.addi v2 c5_i32_451
  let c8_i32_452 : BitVec 32 := 8#32
  let c0_i32_453 : BitVec 32 := 0#32
  let v482 : BitVec 1 := Scalar.cmpi .eq c8_i32_452 c0_i32_453
  let c1_i32_454 : BitVec 32 := 1#32
  let v483 : BitVec 32 := Scalar.select v482 c1_i32_454 c8_i32_452
  let v484 : BitVec 32 := Scalar.remsi v481 v483
  let c0_i32_456 : BitVec 32 := 0#32
  let v486 : BitVec 1 := Scalar.cmpi .slt v484 c0_i32_456
  let c0_i32_457 : BitVec 32 := 0#32
  let v487 : BitVec 1 := Scalar.cmpi .slt v483 c0_i32_457
  let v488 : BitVec 1 := Scalar.xori v486 v487
  let c0_i32_455 : BitVec 32 := 0#32
  let v485 : BitVec 1 := Scalar.cmpi .ne v484 c0_i32_455
  let v489 : BitVec 1 := Scalar.andi v488 v485
  let v490 : BitVec 32 := Scalar.addi v484 v483
  let v491 : BitVec 32 := Scalar.select v489 v490 v484
  let c1_i32_463 : BitVec 32 := 1#32
  let v492 : BitVec 32 := Scalar.muli v491 c1_i32_463
  let v493 : BitVec 32 := Scalar.addi c0_i32_464 v492
  v493.toNat
def k0_dev20 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_469 : BitVec 32 := 6#32
  let v502 : BitVec 32 := Scalar.addi v2 c6_i32_469
  let c8_i32_470 : BitVec 32 := 8#32
  let c0_i32_471 : BitVec 32 := 0#32
  let v503 : BitVec 1 := Scalar.cmpi .eq c8_i32_470 c0_i32_471
  let c1_i32_472 : BitVec 32 := 1#32
  let v504 : BitVec 32 := Scalar.select v503 c1_i32_472 c8_i32_470
  let v505 : BitVec 32 := Scalar.remsi v502 v504
  let c0_i32_474 : BitVec 32 := 0#32
  let v507 : BitVec 1 := Scalar.cmpi .slt v505 c0_i32_474
  let c0_i32_475 : BitVec 32 := 0#32
  let v508 : BitVec 1 := Scalar.cmpi .slt v504 c0_i32_475
  let v509 : BitVec 1 := Scalar.xori v507 v508
  let c0_i32_473 : BitVec 32 := 0#32
  let v506 : BitVec 1 := Scalar.cmpi .ne v505 c0_i32_473
  let v510 : BitVec 1 := Scalar.andi v509 v506
  let v511 : BitVec 32 := Scalar.addi v505 v504
  let v512 : BitVec 32 := Scalar.select v510 v511 v505
  let c1_i32_481 : BitVec 32 := 1#32
  let v513 : BitVec 32 := Scalar.muli v512 c1_i32_481
  let v514 : BitVec 32 := Scalar.addi c0_i32_482 v513
  v514.toNat
def k0_dev21 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_487 : BitVec 32 := 7#32
  let v523 : BitVec 32 := Scalar.addi v2 c7_i32_487
  let c8_i32_488 : BitVec 32 := 8#32
  let c0_i32_489 : BitVec 32 := 0#32
  let v524 : BitVec 1 := Scalar.cmpi .eq c8_i32_488 c0_i32_489
  let c1_i32_490 : BitVec 32 := 1#32
  let v525 : BitVec 32 := Scalar.select v524 c1_i32_490 c8_i32_488
  let v526 : BitVec 32 := Scalar.remsi v523 v525
  let c0_i32_492 : BitVec 32 := 0#32
  let v528 : BitVec 1 := Scalar.cmpi .slt v526 c0_i32_492
  let c0_i32_493 : BitVec 32 := 0#32
  let v529 : BitVec 1 := Scalar.cmpi .slt v525 c0_i32_493
  let v530 : BitVec 1 := Scalar.xori v528 v529
  let c0_i32_491 : BitVec 32 := 0#32
  let v527 : BitVec 1 := Scalar.cmpi .ne v526 c0_i32_491
  let v531 : BitVec 1 := Scalar.andi v530 v527
  let v532 : BitVec 32 := Scalar.addi v526 v525
  let v533 : BitVec 32 := Scalar.select v531 v532 v526
  let c1_i32_499 : BitVec 32 := 1#32
  let v534 : BitVec 32 := Scalar.muli v533 c1_i32_499
  let v535 : BitVec 32 := Scalar.addi c0_i32_500 v534
  v535.toNat
def k0_dev22 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_690 : BitVec 32 := 1#32
  let v684 : BitVec 32 := Scalar.addi v2 c1_i32_690
  let c8_i32_691 : BitVec 32 := 8#32
  let c0_i32_692 : BitVec 32 := 0#32
  let v685 : BitVec 1 := Scalar.cmpi .eq c8_i32_691 c0_i32_692
  let c1_i32_693 : BitVec 32 := 1#32
  let v686 : BitVec 32 := Scalar.select v685 c1_i32_693 c8_i32_691
  let v687 : BitVec 32 := Scalar.remsi v684 v686
  let c0_i32_695 : BitVec 32 := 0#32
  let v689 : BitVec 1 := Scalar.cmpi .slt v687 c0_i32_695
  let c0_i32_696 : BitVec 32 := 0#32
  let v690 : BitVec 1 := Scalar.cmpi .slt v686 c0_i32_696
  let v691 : BitVec 1 := Scalar.xori v689 v690
  let c0_i32_694 : BitVec 32 := 0#32
  let v688 : BitVec 1 := Scalar.cmpi .ne v687 c0_i32_694
  let v692 : BitVec 1 := Scalar.andi v691 v688
  let v693 : BitVec 32 := Scalar.addi v687 v686
  let v694 : BitVec 32 := Scalar.select v692 v693 v687
  let c1_i32_702 : BitVec 32 := 1#32
  let v695 : BitVec 32 := Scalar.muli v694 c1_i32_702
  let v696 : BitVec 32 := Scalar.addi c0_i32_703 v695
  v696.toNat
def k0_dev23 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_708 : BitVec 32 := 2#32
  let v705 : BitVec 32 := Scalar.addi v2 c2_i32_708
  let c8_i32_709 : BitVec 32 := 8#32
  let c0_i32_710 : BitVec 32 := 0#32
  let v706 : BitVec 1 := Scalar.cmpi .eq c8_i32_709 c0_i32_710
  let c1_i32_711 : BitVec 32 := 1#32
  let v707 : BitVec 32 := Scalar.select v706 c1_i32_711 c8_i32_709
  let v708 : BitVec 32 := Scalar.remsi v705 v707
  let c0_i32_713 : BitVec 32 := 0#32
  let v710 : BitVec 1 := Scalar.cmpi .slt v708 c0_i32_713
  let c0_i32_714 : BitVec 32 := 0#32
  let v711 : BitVec 1 := Scalar.cmpi .slt v707 c0_i32_714
  let v712 : BitVec 1 := Scalar.xori v710 v711
  let c0_i32_712 : BitVec 32 := 0#32
  let v709 : BitVec 1 := Scalar.cmpi .ne v708 c0_i32_712
  let v713 : BitVec 1 := Scalar.andi v712 v709
  let v714 : BitVec 32 := Scalar.addi v708 v707
  let v715 : BitVec 32 := Scalar.select v713 v714 v708
  let c1_i32_720 : BitVec 32 := 1#32
  let v716 : BitVec 32 := Scalar.muli v715 c1_i32_720
  let v717 : BitVec 32 := Scalar.addi c0_i32_721 v716
  v717.toNat
def k0_dev24 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_726 : BitVec 32 := 3#32
  let v726 : BitVec 32 := Scalar.addi v2 c3_i32_726
  let c8_i32_727 : BitVec 32 := 8#32
  let c0_i32_728 : BitVec 32 := 0#32
  let v727 : BitVec 1 := Scalar.cmpi .eq c8_i32_727 c0_i32_728
  let c1_i32_729 : BitVec 32 := 1#32
  let v728 : BitVec 32 := Scalar.select v727 c1_i32_729 c8_i32_727
  let v729 : BitVec 32 := Scalar.remsi v726 v728
  let c0_i32_731 : BitVec 32 := 0#32
  let v731 : BitVec 1 := Scalar.cmpi .slt v729 c0_i32_731
  let c0_i32_732 : BitVec 32 := 0#32
  let v732 : BitVec 1 := Scalar.cmpi .slt v728 c0_i32_732
  let v733 : BitVec 1 := Scalar.xori v731 v732
  let c0_i32_730 : BitVec 32 := 0#32
  let v730 : BitVec 1 := Scalar.cmpi .ne v729 c0_i32_730
  let v734 : BitVec 1 := Scalar.andi v733 v730
  let v735 : BitVec 32 := Scalar.addi v729 v728
  let v736 : BitVec 32 := Scalar.select v734 v735 v729
  let c1_i32_738 : BitVec 32 := 1#32
  let v737 : BitVec 32 := Scalar.muli v736 c1_i32_738
  let v738 : BitVec 32 := Scalar.addi c0_i32_739 v737
  v738.toNat
def k0_dev25 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_744 : BitVec 32 := 4#32
  let v747 : BitVec 32 := Scalar.addi v2 c4_i32_744
  let c8_i32_745 : BitVec 32 := 8#32
  let c0_i32_746 : BitVec 32 := 0#32
  let v748 : BitVec 1 := Scalar.cmpi .eq c8_i32_745 c0_i32_746
  let c1_i32_747 : BitVec 32 := 1#32
  let v749 : BitVec 32 := Scalar.select v748 c1_i32_747 c8_i32_745
  let v750 : BitVec 32 := Scalar.remsi v747 v749
  let c0_i32_749 : BitVec 32 := 0#32
  let v752 : BitVec 1 := Scalar.cmpi .slt v750 c0_i32_749
  let c0_i32_750 : BitVec 32 := 0#32
  let v753 : BitVec 1 := Scalar.cmpi .slt v749 c0_i32_750
  let v754 : BitVec 1 := Scalar.xori v752 v753
  let c0_i32_748 : BitVec 32 := 0#32
  let v751 : BitVec 1 := Scalar.cmpi .ne v750 c0_i32_748
  let v755 : BitVec 1 := Scalar.andi v754 v751
  let v756 : BitVec 32 := Scalar.addi v750 v749
  let v757 : BitVec 32 := Scalar.select v755 v756 v750
  let c1_i32_756 : BitVec 32 := 1#32
  let v758 : BitVec 32 := Scalar.muli v757 c1_i32_756
  let v759 : BitVec 32 := Scalar.addi c0_i32_757 v758
  v759.toNat
def k0_dev26 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_762 : BitVec 32 := 5#32
  let v768 : BitVec 32 := Scalar.addi v2 c5_i32_762
  let c8_i32_763 : BitVec 32 := 8#32
  let c0_i32_764 : BitVec 32 := 0#32
  let v769 : BitVec 1 := Scalar.cmpi .eq c8_i32_763 c0_i32_764
  let c1_i32_765 : BitVec 32 := 1#32
  let v770 : BitVec 32 := Scalar.select v769 c1_i32_765 c8_i32_763
  let v771 : BitVec 32 := Scalar.remsi v768 v770
  let c0_i32_767 : BitVec 32 := 0#32
  let v773 : BitVec 1 := Scalar.cmpi .slt v771 c0_i32_767
  let c0_i32_768 : BitVec 32 := 0#32
  let v774 : BitVec 1 := Scalar.cmpi .slt v770 c0_i32_768
  let v775 : BitVec 1 := Scalar.xori v773 v774
  let c0_i32_766 : BitVec 32 := 0#32
  let v772 : BitVec 1 := Scalar.cmpi .ne v771 c0_i32_766
  let v776 : BitVec 1 := Scalar.andi v775 v772
  let v777 : BitVec 32 := Scalar.addi v771 v770
  let v778 : BitVec 32 := Scalar.select v776 v777 v771
  let c1_i32_774 : BitVec 32 := 1#32
  let v779 : BitVec 32 := Scalar.muli v778 c1_i32_774
  let v780 : BitVec 32 := Scalar.addi c0_i32_775 v779
  v780.toNat
def k0_dev27 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_780 : BitVec 32 := 6#32
  let v789 : BitVec 32 := Scalar.addi v2 c6_i32_780
  let c8_i32_781 : BitVec 32 := 8#32
  let c0_i32_782 : BitVec 32 := 0#32
  let v790 : BitVec 1 := Scalar.cmpi .eq c8_i32_781 c0_i32_782
  let c1_i32_783 : BitVec 32 := 1#32
  let v791 : BitVec 32 := Scalar.select v790 c1_i32_783 c8_i32_781
  let v792 : BitVec 32 := Scalar.remsi v789 v791
  let c0_i32_785 : BitVec 32 := 0#32
  let v794 : BitVec 1 := Scalar.cmpi .slt v792 c0_i32_785
  let c0_i32_786 : BitVec 32 := 0#32
  let v795 : BitVec 1 := Scalar.cmpi .slt v791 c0_i32_786
  let v796 : BitVec 1 := Scalar.xori v794 v795
  let c0_i32_784 : BitVec 32 := 0#32
  let v793 : BitVec 1 := Scalar.cmpi .ne v792 c0_i32_784
  let v797 : BitVec 1 := Scalar.andi v796 v793
  let v798 : BitVec 32 := Scalar.addi v792 v791
  let v799 : BitVec 32 := Scalar.select v797 v798 v792
  let c1_i32_792 : BitVec 32 := 1#32
  let v800 : BitVec 32 := Scalar.muli v799 c1_i32_792
  let v801 : BitVec 32 := Scalar.addi c0_i32_793 v800
  v801.toNat
def k0_dev28 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_798 : BitVec 32 := 7#32
  let v810 : BitVec 32 := Scalar.addi v2 c7_i32_798
  let c8_i32_799 : BitVec 32 := 8#32
  let c0_i32_800 : BitVec 32 := 0#32
  let v811 : BitVec 1 := Scalar.cmpi .eq c8_i32_799 c0_i32_800
  let c1_i32_801 : BitVec 32 := 1#32
  let v812 : BitVec 32 := Scalar.select v811 c1_i32_801 c8_i32_799
  let v813 : BitVec 32 := Scalar.remsi v810 v812
  let c0_i32_803 : BitVec 32 := 0#32
  let v815 : BitVec 1 := Scalar.cmpi .slt v813 c0_i32_803
  let c0_i32_804 : BitVec 32 := 0#32
  let v816 : BitVec 1 := Scalar.cmpi .slt v812 c0_i32_804
  let v817 : BitVec 1 := Scalar.xori v815 v816
  let c0_i32_802 : BitVec 32 := 0#32
  let v814 : BitVec 1 := Scalar.cmpi .ne v813 c0_i32_802
  let v818 : BitVec 1 := Scalar.andi v817 v814
  let v819 : BitVec 32 := Scalar.addi v813 v812
  let v820 : BitVec 32 := Scalar.select v818 v819 v813
  let c1_i32_810 : BitVec 32 := 1#32
  let v821 : BitVec 32 := Scalar.muli v820 c1_i32_810
  let v822 : BitVec 32 := Scalar.addi c0_i32_811 v821
  v822.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x4096, .bf16⟩
  | .hbm, ⟨2, _⟩ => ⟨S4096x256, .bf16⟩
  | .hbm, ⟨3, _⟩ => ⟨S256x4096, .bf16⟩
  | .hbm, ⟨4, _⟩ => ⟨S4096x256, .bf16⟩
  | .hbm, ⟨5, _⟩ => ⟨S256x4096, .bf16⟩
  | .hbm, ⟨6, _⟩ => ⟨S4096x256, .bf16⟩
  | .hbm, ⟨7, _⟩ => ⟨S256x256, .f32⟩
  | .hbm, ⟨8, _⟩ => ⟨S256x4096, .f32⟩
  | .hbm, ⟨9, _⟩ => ⟨S256x4096, .f32⟩
  | .hbm, ⟨10, _⟩ => ⟨S_, .f32⟩
  | .hbm, ⟨11, _⟩ => ⟨S256x4096, .f32⟩
  | .hbm, ⟨12, _⟩ => ⟨S256x4096, .f32⟩
  | .hbm, ⟨13, _⟩ => ⟨S4096x256, .f32⟩
  | .hbm, ⟨14, _⟩ => ⟨S256x256, .f32⟩
  | .hbm, ⟨15, _⟩ => ⟨S256x4096, .f32⟩
  | .hbm, ⟨16, _⟩ => ⟨S256x4096, .f32⟩
  | .hbm, ⟨17, _⟩ => ⟨S_, .f32⟩
  | .hbm, ⟨18, _⟩ => ⟨S256x4096, .f32⟩
  | .hbm, ⟨19, _⟩ => ⟨S256x4096, .f32⟩
  | .hbm, ⟨20, _⟩ => ⟨S4096x256, .f32⟩
  | .hbm, ⟨21, _⟩ => ⟨S256x256, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S256x4096, .f32⟩
  | .hbm, ⟨26, _⟩ => ⟨S256x4096, .f32⟩
  | .hbm, ⟨27, _⟩ => ⟨S4096x256, .f32⟩
  | .hbm, ⟨28, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Sched.lean ====
/-
The protocol of the three all-reduce layers, stated once for every device: which device writes where, what each
semaphore cell expects, and what each arriving amount hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's own resource: rounds over the cells, seven duties a round, one per other device. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The devices -/

set_option backward.proofsInPublic true in
/-- The device `j + 1` places after `c`. -/
def pl (c : Dev nD) (j : Fin 7) : Dev nD := ⟨(c.val + (j.val + 1)) % 8, Nat.mod_lt _ (by decide)⟩
set_option backward.proofsInPublic true in
/-- The device `j + 1` places before `c`. -/
def mi (c : Dev nD) (j : Fin 7) : Dev nD := ⟨(c.val + (7 - j.val)) % 8, Nat.mod_lt _ (by decide)⟩

theorem mi_pl (c : Dev nD) (j : Fin 7) : mi (pl c j) j = c := by revert c j; decide
theorem pl_mi (c : Dev nD) (j : Fin 7) : pl (mi c j) j = c := by revert c j; decide
theorem pl_rev (c : Dev nD) (j : Fin 7) : pl (pl c j) j.rev = c := by revert c j; decide
theorem mi_eq_pl_rev (c : Dev nD) (j : Fin 7) : mi c j = pl c j.rev := by revert c j; decide

/-- Stepping `j + 1` places on is a bijection of the devices. -/
def around (j : Fin 7) : Dev nD ≃ Dev nD := ⟨fun c => pl c j, fun c => mi c j, fun c => mi_pl c j, fun c => pl_mi c j⟩

theorem dev1_eq (c : Dev nD) : (⟨k0_dev1 c, k0_dev1_lt c⟩ : Dev nD) = pl c 0 := by revert c; decide +kernel
theorem dev2_eq (c : Dev nD) : (⟨k0_dev2 c, k0_dev2_lt c⟩ : Dev nD) = pl c 1 := by revert c; decide +kernel
theorem dev3_eq (c : Dev nD) : (⟨k0_dev3 c, k0_dev3_lt c⟩ : Dev nD) = pl c 2 := by revert c; decide +kernel
theorem dev4_eq (c : Dev nD) : (⟨k0_dev4 c, k0_dev4_lt c⟩ : Dev nD) = pl c 3 := by revert c; decide +kernel
theorem dev5_eq (c : Dev nD) : (⟨k0_dev5 c, k0_dev5_lt c⟩ : Dev nD) = pl c 4 := by revert c; decide +kernel
theorem dev6_eq (c : Dev nD) : (⟨k0_dev6 c, k0_dev6_lt c⟩ : Dev nD) = pl c 5 := by revert c; decide +kernel
theorem dev7_eq (c : Dev nD) : (⟨k0_dev7 c, k0_dev7_lt c⟩ : Dev nD) = pl c 6 := by revert c; decide +kernel
theorem dev8_eq (c : Dev nD) : (⟨k0_dev8 c, k0_dev8_lt c⟩ : Dev nD) = pl c 0 := by revert c; decide +kernel
theorem dev9_eq (c : Dev nD) : (⟨k0_dev9 c, k0_dev9_lt c⟩ : Dev nD) = pl c 1 := by revert c; decide +kernel
theorem dev10_eq (c : Dev nD) : (⟨k0_dev10 c, k0_dev10_lt c⟩ : Dev nD) = pl c 2 := by revert c; decide +kernel
theorem dev11_eq (c : Dev nD) : (⟨k0_dev11 c, k0_dev11_lt c⟩ : Dev nD) = pl c 3 := by revert c; decide +kernel
theorem dev12_eq (c : Dev nD) : (⟨k0_dev12 c, k0_dev12_lt c⟩ : Dev nD) = pl c 4 := by revert c; decide +kernel
theorem dev13_eq (c : Dev nD) : (⟨k0_dev13 c, k0_dev13_lt c⟩ : Dev nD) = pl c 5 := by revert c; decide +kernel
theorem dev14_eq (c : Dev nD) : (⟨k0_dev14 c, k0_dev14_lt c⟩ : Dev nD) = pl c 6 := by revert c; decide +kernel
theorem dev15_eq (c : Dev nD) : (⟨k0_dev15 c, k0_dev15_lt c⟩ : Dev nD) = pl c 0 := by revert c; decide +kernel
theorem dev16_eq (c : Dev nD) : (⟨k0_dev16 c, k0_dev16_lt c⟩ : Dev nD) = pl c 1 := by revert c; decide +kernel
theorem dev17_eq (c : Dev nD) : (⟨k0_dev17 c, k0_dev17_lt c⟩ : Dev nD) = pl c 2 := by revert c; decide +kernel
theorem dev18_eq (c : Dev nD) : (⟨k0_dev18 c, k0_dev18_lt c⟩ : Dev nD) = pl c 3 := by revert c; decide +kernel
theorem dev19_eq (c : Dev nD) : (⟨k0_dev19 c, k0_dev19_lt c⟩ : Dev nD) = pl c 4 := by revert c; decide +kernel
theorem dev20_eq (c : Dev nD) : (⟨k0_dev20 c, k0_dev20_lt c⟩ : Dev nD) = pl c 5 := by revert c; decide +kernel
theorem dev21_eq (c : Dev nD) : (⟨k0_dev21 c, k0_dev21_lt c⟩ : Dev nD) = pl c 6 := by revert c; decide +kernel
theorem dev22_eq (c : Dev nD) : (⟨k0_dev22 c, k0_dev22_lt c⟩ : Dev nD) = pl c 0 := by revert c; decide +kernel
theorem dev23_eq (c : Dev nD) : (⟨k0_dev23 c, k0_dev23_lt c⟩ : Dev nD) = pl c 1 := by revert c; decide +kernel
theorem dev24_eq (c : Dev nD) : (⟨k0_dev24 c, k0_dev24_lt c⟩ : Dev nD) = pl c 2 := by revert c; decide +kernel
theorem dev25_eq (c : Dev nD) : (⟨k0_dev25 c, k0_dev25_lt c⟩ : Dev nD) = pl c 3 := by revert c; decide +kernel
theorem dev26_eq (c : Dev nD) : (⟨k0_dev26 c, k0_dev26_lt c⟩ : Dev nD) = pl c 4 := by revert c; decide +kernel
theorem dev27_eq (c : Dev nD) : (⟨k0_dev27 c, k0_dev27_lt c⟩ : Dev nD) = pl c 5 := by revert c; decide +kernel
theorem dev28_eq (c : Dev nD) : (⟨k0_dev28 c, k0_dev28_lt c⟩ : Dev nD) = pl c 6 := by revert c; decide +kernel

/-! ## Buffers, slots and cells -/

abbrev partB : Memref sig .tc .vmem S3x256x256 .bf16 := Memref.whole cc0_scratch0
abbrev gathB : Memref sig .tc .vmem S3x7x256x256 .bf16 := Memref.whole cc0_scratch1

theorem inbP (k : Fin 3) : ∀ a, (![k.val, 0, 0] : Fin 3 → ℕ) a + S1x256x256.size a ≤ S3x256x256.size a := by
  revert k; decide
theorem inbG (k : Fin 3) (j : Fin 7) : ∀ a, (![k.val, j.val, 0, 0] : Fin 4 → ℕ) a + S1x1x256x256.size a ≤ S3x7x256x256.size a := by
  revert k j; decide
theorem inbS (k : Fin 3) : ∀ a, (![k.val] : Fin 1 → ℕ) a + S1.size a ≤ S3.size a := by revert k; decide

/-- Layer `k`'s rectangle of the partial-sum buffer. -/
abbrev rP (k : Fin 3) : Rect S3x256x256 := Rect.unit (s := S3x256x256) ![k.val, 0, 0] S1x256x256.size (inbP k)
/-- Slot `j` of layer `k` of the gather buffer. -/
abbrev rG (k : Fin 3) (j : Fin 7) : Rect S3x7x256x256 := Rect.unit (s := S3x7x256x256) ![k.val, j.val, 0, 0] S1x1x256x256.size (inbG k j)

abbrev partM (k : Fin 3) : Memref sig .tc .vmem S256x256 .bf16 :=
  (partB.slice (rP k) (fun _ => rfl)).squeeze S256x256 squeezes_S1x256x256_S256x256
abbrev gathM (k : Fin 3) (j : Fin 7) : Memref sig .tc .vmem S256x256 .bf16 :=
  (gathB.slice (rG k j) (fun _ => rfl)).squeeze S256x256 squeezes_S1x1x256x256_S256x256

abbrev barS : Sem sig := (SemArray.scalar (sig.barrier 0 rfl) : Sems sig S_).sem
abbrev sendS (k : Fin 3) : DmaSem sig :=
  ((cc0_scratch2.slice (Rect.unit (s := S3) ![k.val] S1.size (inbS k))).squeeze S_ squeezes_S1_S_).sem
abbrev recvS (k : Fin 3) : DmaSem sig :=
  ((cc0_scratch3.slice (Rect.unit (s := S3) ![k.val] S1.size (inbS k))).squeeze S_ squeezes_S1_S_).sem

/-- A device's seven protocol cells: its barrier, a send and a receive cell per layer. -/
abbrev Cx : Type := Unit ⊕ Fin 3 ⊕ Fin 3
abbrev cBar : Cx := .inl ()
abbrev cSend (k : Fin 3) : Cx := .inr (.inl k)
abbrev cRecv (k : Fin 3) : Cx := .inr (.inr k)

def csem : Cx → SemLoc sig
  | .inl _ => .reg barS
  | .inr (.inl k) => .dma (sendS k)
  | .inr (.inr k) => .dma (recvS k)

abbrev cell (c : Dev nD) (x : Cx) : GSem nD τ sig := ((c : Thread nD τ), csem x)
abbrev kcell (cx : Dev nD × Cx) : GSem nD τ sig := cell cx.1 cx.2

theorem csem_injective : Function.Injective csem := by
  intro x y h
  revert x y; decide

/-- Which protocol cell a semaphore is, if any. -/
def which (s : SemLoc sig) : Option Cx :=
  [cBar, cSend 0, cSend 1, cSend 2, cRecv 0, cRecv 1, cRecv 2].find? fun x => decide (csem x = s)

theorem which_csem (x : Cx) : which (csem x) = some x := by
  revert x; decide

/-- One slot's transfer credit. -/
abbrev N : ℕ := (gathM 0 0).view.dmaCredit
theorem N_pos : 0 < N := View.dmaCredit_pos _ (by decide)
theorem credit_gath (k : Fin 3) (j : Fin 7) : (gathM k j).view.dmaCredit = N := rfl
theorem credit_part (k : Fin 3) : (partM k).view.dmaCredit = N := by
  revert k; decide

end Cert.AllGather

end
-- ==== Proof.Vals.lean ====
/-
The values the three layers compute, the contents of the slots that carry them, the schedule of the cells and what
each device owes when it starts.
-/
module

public import proofs.«01_k».proof.Proof.Sched

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The values -/

/-- What the input windows stage on device `c`. -/
def stg0 (c : Dev nD) : (cc0_stg0_0 : Ref sig .tc).ty.Contents (Elt F) := (win0_0.blk (0 : Fin 1)).view.read (Elt F) (m ((c : Thread nD τ).loc main_arg0))
def stg1 (c : Dev nD) : (cc0_stg1_0 : Ref sig .tc).ty.Contents (Elt F) := (win0_1.blk (0 : Fin 1)).view.read (Elt F) (m ((c : Thread nD τ).loc main_arg1))
def stg2 (c : Dev nD) : (cc0_stg2_0 : Ref sig .tc).ty.Contents (Elt F) := (win0_2.blk (0 : Fin 1)).view.read (Elt F) (m ((c : Thread nD τ).loc main_arg2))
def stg3 (c : Dev nD) : (cc0_stg3_0 : Ref sig .tc).ty.Contents (Elt F) := (win0_3.blk (0 : Fin 1)).view.read (Elt F) (m ((c : Thread nD τ).loc main_arg3))
def stg4 (c : Dev nD) : (cc0_stg4_0 : Ref sig .tc).ty.Contents (Elt F) := (win0_4.blk (0 : Fin 1)).view.read (Elt F) (m ((c : Thread nD τ).loc main_arg4))
def stg5 (c : Dev nD) : (cc0_stg5_0 : Ref sig .tc).ty.Contents (Elt F) := (win0_5.blk (0 : Fin 1)).view.read (Elt F) (m ((c : Thread nD τ).loc main_arg5))
def stg6 (c : Dev nD) : (cc0_stg6_0 : Ref sig .tc).ty.Contents (Elt F) := (win0_6.blk (0 : Fin 1)).view.read (Elt F) (m ((c : Thread nD τ).loc main_arg6))

/-- Layer `k`'s two weight shards on device `c`. -/
def wIn (k : Fin 3) (c : Dev nD) : Vec F S256x512 .bf16 := match k with
  | 0 => stg1 m c | 1 => stg3 m c | 2 => stg5 m c
def wOut (k : Fin 3) (c : Dev nD) : Vec F S512x256 .bf16 := match k with
  | 0 => stg2 m c | 1 => stg4 m c | 2 => stg6 m c

/-- One device's two products of a layer: the activation between them, the result unrounded. -/
def lay (xv : FVec F S256x256 .bf16) (w1 : Vec F S256x512 .bf16) (w2 : Vec F S512x256 .bf16) : FVec F S256x256 .f32 :=
  matmul dot_S256x512_S512x256_S256x256_1_0_0_1_n_n none
    (truncf .bf16 (maximumf
      (matmul dot_S256x256_S256x512_S256x512_1_0_0_1_n_n none xv (shapeCast S256x512 w1 shapeCasts_S256x512_S256x512) (constant S256x512 .f32 0x00000000#32))
      (broadcast S256x512 (Scalar.ofBits .f32 0x00000000#32))) bitsLt_bf16_f32)
    (shapeCast S512x256 w2 shapeCasts_S512x256_S512x256) (constant S256x256 .f32 0x00000000#32)

/-- Adding seven arriving partial sums to one's own, in slot order. -/
def accum (p : FVec F S256x256 .f32) (b : Fin 7 → FVec F S256x256 .bf16) : FVec F S256x256 .f32 :=
  addf (addf (addf (addf (addf (addf (addf p (extf .f32 (b 0) bitsLt_bf16_f32)) (extf .f32 (b 1) bitsLt_bf16_f32))
    (extf .f32 (b 2) bitsLt_bf16_f32)) (extf .f32 (b 3) bitsLt_bf16_f32)) (extf .f32 (b 4) bitsLt_bf16_f32))
    (extf .f32 (b 5) bitsLt_bf16_f32)) (extf .f32 (b 6) bitsLt_bf16_f32)

/-- From the layer's inputs on every device: its partial sum, that sum rounded, the total. -/
def pOf (X : Dev nD → FVec F S256x256 .bf16) (k : Fin 3) (c : Dev nD) : FVec F S256x256 .f32 := lay (X c) (wIn m k c) (wOut m k c)
def bOf (X : Dev nD → FVec F S256x256 .bf16) (k : Fin 3) (c : Dev nD) : FVec F S256x256 .bf16 := truncf .bf16 (pOf m X k c) bitsLt_bf16_f32
def tOf (X : Dev nD → FVec F S256x256 .bf16) (k : Fin 3) (c : Dev nD) : FVec F S256x256 .f32 :=
  accum (pOf m X k c) fun j => bOf m X k (mi c j)

def x0 (c : Dev nD) : FVec F S256x256 .bf16 := shapeCast S256x256 (stg0 m c : Vec F S256x256 .bf16) shapeCasts_S256x256_S256x256
def x1 (c : Dev nD) : FVec F S256x256 .bf16 := truncf .bf16 (tOf m (x0 m) 0 c) bitsLt_bf16_f32
def x2 (c : Dev nD) : FVec F S256x256 .bf16 := truncf .bf16 (tOf m (x1 m) 1 c) bitsLt_bf16_f32

/-- Layer `k`'s inputs on every device, its partial sums, those sums rounded (what travels), its totals. -/
def xk (k : Fin 3) : Dev nD → FVec F S256x256 .bf16 := match k with
  | 0 => x0 m | 1 => x1 m | 2 => x2 m
def pk (k : Fin 3) (c : Dev nD) : FVec F S256x256 .f32 := pOf m (xk m k) k c
def bk (k : Fin 3) (c : Dev nD) : FVec F S256x256 .bf16 := bOf m (xk m k) k c
def tk (k : Fin 3) (c : Dev nD) : FVec F S256x256 .f32 := tOf m (xk m k) k c

/-- The kernel's result on device `c`. -/
def outAt (c : Dev nD) : (cc0_stg7_0 : Ref sig .tc).ty.Contents (Elt F) := (tk m 2 c : Vec F S256x256 .f32)

/-! ## The slots' contents -/

/-- Layer `k`'s partial-sum slot on `c`, at what `c` computed; slot `j` of layer `k` on `c`, at what the device `j + 1`
    places before `c` computed. Off the slot the contents are of no account. -/
def pCan (k : Fin 3) (c : Dev nD) : Buf (Elt F) ((partM k).view.loc (c : Thread nD τ)) :=
  (partM k).view.write (Elt F) (m ((partM k).view.loc (c : Thread nD τ))) (bk m k c) Finset.univ
def gCan (k : Fin 3) (j : Fin 7) (c : Dev nD) : Buf (Elt F) ((gathM k j).view.loc (c : Thread nD τ)) :=
  (gathM k j).view.write (Elt F) (m ((gathM k j).view.loc (c : Thread nD τ))) (bk m k (mi c j)) Finset.univ

def pPts (c : Dev nD) (k : Fin 3) (q : PosShare TreeShare) (f : Buf (Elt F) ((partM k).view.loc (c : Thread nD τ))) : sProp 𝕄 :=
  (partM k).view.loc (c : Thread nD τ) ↦[(partM k).view.set]{q} f
def gPts (c : Dev nD) (k : Fin 3) (j : Fin 7) (f : Buf (Elt F) ((gathM k j).view.loc (c : Thread nD τ))) : sProp 𝕄 :=
  (gathM k j).view.loc (c : Thread nD τ) ↦[(gathM k j).view.set]{fullShare} f

omit [FloatOps F] in
instance pPts_storable (c : Dev nD) (k q f) : BI.Storable (upEmb : UEmb _ 𝕄) (pPts (F := F) c k q f) := by unfold pPts; infer_instance
omit [FloatOps F] in
instance gPts_storable (c : Dev nD) (k j f) : BI.Storable (upEmb : UEmb _ 𝕄) (gPts (F := F) c k j f) := by unfold gPts; infer_instance

/-! ## The schedule -/

/-- What a signal on `c`'s barrier under name `i` hands over: the three slots `i` of the device `i + 1` places on, which
    `c` will write. -/
def barPay (c : Dev nD) (i : Fin 7) : sProp 𝕄 :=
  bigSep Finset.univ fun k : Fin 3 => iprop(∃ f, gPts (pl c i) k i f)

/-- What cell `x` of device `c` receives with duty `i`. -/
def pay (c : Dev nD) (x : Cx) (i : Fin 7) : sProp 𝕄 := match x with
  | .inl _ => barPay c i
  | .inr (.inl k) => pPts c k (shareTok fullShare 7 i) (pCan m k c)
  | .inr (.inr k) => gPts c k i (gCan m k i c)

instance barPay_storable (c : Dev nD) (i : Fin 7) : BI.Storable (upEmb : UEmb _ 𝕄) (barPay (F := F) c i) := by
  unfold barPay; infer_instance

instance pay_storable (c : Dev nD) (x : Cx) (i : Fin 7) : BI.Storable (upEmb : UEmb _ 𝕄) (pay m c x i) := by
  rcases x with _ | k | k <;> (unfold pay; infer_instance)

def camt : Cx → ℕ
  | .inl _ => 1
  | .inr _ => N

/-- One round, round 0: every protocol cell has seven duties, one unit each on a barrier, one slot's credit elsewhere. -/
def gRd : Rounds.Schedule (GSem nD τ sig) (Fin 7) 𝕄 where
  duties g r := if r = 0 ∧ g.1.2 = .tc ∧ (which g.2).isSome then Finset.univ else ∅
  unitless _ := False
  amount g _ _ := match which g.2 with
    | some x => camt x
    | none => 1
  payload g _ d := match which g.2 with
    | some x => pay m g.1.1 x d
    | none => iprop(emp)
  amount_pos g _ _ _ := by
    split
    · rename_i x _
      rcases x with _ | x
      · exact Nat.one_pos
      · exact N_pos
    · exact Nat.one_pos

instance gRd_payload_storable (g : GSem nD τ sig) (r : ℕ) (d : Fin 7) :
    BI.Storable (upEmb : UEmb _ 𝕄) ((gRd (F := F) m).payload g r d) := by
  show BI.Storable upEmb (match which g.2 with
    | some x => pay m g.1.1 x d
    | none => iprop(emp))
  split <;> infer_instance

section Sched
variable (c : Dev nD) (x : Cx)

theorem duties_cell : (gRd (F := F) m).duties (cell c x) 0 = Finset.univ := by
  dsimp only [gRd]; exact if_pos ⟨rfl, rfl, by rw [which_csem]; rfl⟩
theorem duties_later (g : GSem nD τ sig) : ∀ r, 1 ≤ r → (gRd (F := F) m).duties g r = ∅ :=
  fun r hr => by dsimp only [gRd]; rw [if_neg fun h => by omega]
theorem amount_cell (d : Fin 7) : (gRd (F := F) m).amount (cell c x) 0 d = camt x := by
  dsimp only [gRd]; rw [which_csem]
theorem payload_cell (d : Fin 7) : (gRd (F := F) m).payload (cell c x) 0 d = pay m c x d := by
  dsimp only [gRd]; rw [which_csem]
theorem expect_cell : (gRd (F := F) m).expect (cell c x) 0 = 7 * camt x := by
  unfold Schedule.expect Schedule.amountOf
  rw [duties_cell, Finset.sum_congr rfl fun d _ => amount_cell m c x d, Finset.sum_const, Finset.card_univ, Fintype.card_fin, smul_eq_mul]

end Sched

/-! ## What a device owes, item by item; the levels -/

/-- One thing owed: a signal on the barrier `j + 1` places on, or layer `k`'s transfer into that device. -/
abbrev Item : Type := Option (Fin 3) × Fin 7

def ixc : Option (Fin 3) → Cx
  | none => cBar
  | some k => cRecv k
abbrev icell (c : Dev nD) (x : Item) : GSem nD τ sig := cell (pl c x.2) (ixc x.1)

def owe (c : Dev nD) : List Item → CellTallies nD τ sig Unit
  | [] => 0
  | x :: l => owe c l + tallyAt (icell c x) () (camt (ixc x.1))

/-- Everything owed at the start, in the order the program pays it. -/
def items : List Item :=
  [(none, 0), (none, 1), (none, 2), (none, 3), (none, 4), (none, 5), (none, 6),
   (some 0, 0), (some 0, 1), (some 0, 2), (some 0, 3), (some 0, 4), (some 0, 5), (some 0, 6),
   (some 1, 0), (some 1, 1), (some 1, 2), (some 1, 3), (some 1, 4), (some 1, 5), (some 1, 6),
   (some 2, 0), (some 2, 1), (some 2, 2), (some 2, 3), (some 2, 4), (some 2, 5), (some 2, 6)]

def O₀ (c : Dev nD) : CellTallies nD τ sig Unit := owe c items

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A barrier at 1, layer `k`'s receive cell at `2 + k`, everything else at 0. -/
def clev : Cx → ℕ
  | .inl _ => 1
  | .inr (.inl _) => 0
  | .inr (.inr k) => 2 + k.val
def lv (g : GSem nD τ sig) (_ : Unit) : ℕ := match which g.2 with
  | some x => clev x
  | none => 0

theorem lv_cell (c : Dev nD) (x : Cx) (u : Unit) : lv (cell c x) u = clev x := by
  unfold lv; rw [which_csem]

theorem owe_pos {c : Dev nD} {g : GSem nD τ sig} {u : Unit} : ∀ {l : List Item}, 0 < owe c l g u → ∃ x ∈ l, g = icell c x
  | [], h => absurd h (Nat.lt_irrefl 0)
  | x :: l, h => by
      by_cases hx : g = icell c x
      · exact ⟨x, List.mem_cons_self, hx⟩
      · have h' : 0 < owe c l g u := by
          have h1 : (owe c l + tallyAt (icell c x) () (camt (ixc x.1))) g u = owe c l g u := by
            rw [Pi.add_apply, Finsupp.add_apply, tallyAt_apply, if_neg (fun h' => hx h'.1), Nat.add_zero]
          rw [← h1]; exact h
        obtain ⟨y, hy, rfl⟩ := owe_pos h'
        exact ⟨y, List.mem_cons_of_mem _ hy, rfl⟩

/-- A wait on a cell below everything still owed is allowed. -/
theorem mayWait_below (c : Dev nD) (sm : SemLoc sig) (n : ℕ) (hn : lv ((c : Thread nD τ), sm) () = n) (l : List Item)
    (hl : ∀ x ∈ l, n < clev (ixc x.1)) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, _, rfl⟩ := owe_pos hg; exact Finset.mem_singleton_self _)
    (fun p hp => by rw [Finset.mem_singleton.mp hp]; exact hn.le)
    (fun g u hg => by obtain ⟨x, hx, rfl⟩ := owe_pos hg; rw [lv_cell]; exact hl x hx)

theorem mayWait_cell (c : Dev nD) (y : Cx) (l : List Item) (hl : ∀ x ∈ l, clev y < clev (ixc x.1)) :
    (levAts L lv : sProp 𝕄) ⊢ MayWait (c : Thread nD τ) (csem y) () (owe c l) :=
  mayWait_below c (csem y) (clev y) (lv_cell c y ()) l hl

end Cert.AllGather

end
-- ==== Proof.Steps.lean ====
/-
One lemma per kind of operation the program makes on the protocol's cells, each in the form "holding this, the program
goes on once that is held".
-/
module

public import proofs.«01_k».proof.Proof.Vals

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is known throughout -/

/-- Every cell's invariant, at the names the launch chose, and every cell's first round open; and the levels. -/
def facts (K : Dev nD × Cx → ℕ) : sProp 𝕄 :=
  iprop(((bigSep Finset.univ fun cx : Dev nD × Cx => cellInv ER (gRd m) (K cx) (kcell cx))
    ∗ bigSep Finset.univ fun cx : Dev nD × Cx => reached ER (kcell cx) 0) ∗ levAts L lv)

instance facts_persistent (K : Dev nD × Cx → ℕ) : BI.Persistent (facts m K) := by unfold facts; infer_instance

variable (K : Dev nD × Cx → ℕ)

theorem all_inv (cx : Dev nD × Cx) :
    (bigSep Finset.univ fun cx : Dev nD × Cx => (cellInv ER (gRd m) (K cx) (kcell cx) : sProp 𝕄)) ⊢ cellInv ER (gRd m) (K cx) (kcell cx) :=
  bigSep_elim (Finset.mem_univ cx)
theorem all_reached (cx : Dev nD × Cx) :
    (bigSep Finset.univ fun cx : Dev nD × Cx => (reached ER (kcell cx) 0 : sProp 𝕄)) ⊢ reached ER (kcell cx) 0 :=
  bigSep_elim (Finset.mem_univ cx)

theorem facts_inv (c : Dev nD) (x : Cx) : facts m K ⊢ cellInv ER (gRd m) (K (c, x)) (cell c x) := by
  unfold facts
  iintro ⟨⟨H, -⟩, -⟩
  iapply (all_inv m K (c, x)); iexact H
theorem facts_reached (c : Dev nD) (x : Cx) : facts m K ⊢ reached ER (cell c x) 0 := by
  unfold facts
  iintro ⟨⟨-, H⟩, -⟩
  iapply (all_reached (F := F) (c, x)); iexact H
theorem facts_lev : facts m K ⊢ levAts L lv := by
  unfold facts
  iintro ⟨-, H⟩
  iexact H

/-- A family over a part and over the rest is the family over the whole. -/
theorem join_part {s t : Finset (Fin 7)} (h : t ⊆ s) (Φ : Fin 7 → sProp 𝕄) : iprop(bigSep t Φ ∗ bigSep (s \ t) Φ) ⊢ bigSep s Φ :=
  Entails.of_eq (bigSep_sdiff_split h).symm

theorem mem_duty (c : Dev nD) (x : Cx) (d : Fin 7) : d ∈ (gRd (F := F) m).duties (cell c x) 0 := by
  rw [duties_cell]; exact Finset.mem_univ _

/-- Owing the items `l`, whatever was waited for before. -/
def owesE (c : Dev nD) (l : List Item) : sProp 𝕄 := iprop(∃ W : Waits sig Unit, owes (c : Thread nD τ) (owe c l) W)

/-- The device's own slots of one number, one per layer. -/
def slots (c : Dev nD) (i : Fin 7) : sProp 𝕄 := bigSep Finset.univ fun k : Fin 3 => iprop(∃ f, gPts c k i f)

theorem barPay_eq (c : Dev nD) (j : Fin 7) : barPay (F := F) (pl c j) j.rev = slots c j.rev := by
  unfold barPay slots; rw [pl_rev]

variable {α : Type}

/-- The signal `j` places on, paying that device's barrier with this device's slots it will write. -/
theorem signal_step (c n : Dev nD) (j : Fin 7) (hn : n = pl c j) (l : List Item) {k' : ℕ} (hk : k' = 1)
    {k : PUnit → Prog (TpuEff nD τ sig (Elt F) Λ₀ .tc) α} {Kt : α → sProp 𝕄} :
    iprop(facts m K ∗ owesE c ((none, j) :: l) ∗ dutyTok ER (cell (pl c j) cBar) 0 j.rev ∗ slots c j.rev)
      ⊢ iprop((owesE c l -∗ wp frame (wpE (defs₀ (F := F)) 𝒱₀ (c : Thread nD τ) none) Set.univ (k ⟨⟩) Kt)
          -∗ wp frame (wpE (defs₀ (F := F)) 𝒱₀ (c : Thread nD τ) none) Set.univ
              (.op (.semSignal (Dev.tc n : Thread nD τ) barS k') k) Kt) := by
  subst hn hk
  unfold owesE
  iintro ⟨#Hf, ⟨%W, HO⟩, Ht, Hs⟩ Hk
  iapply (Rounds.wp_signal 𝒱₀ ER (gRd m) (c : Thread nD τ) none (dst := (pl c j : Thread nD τ)) (κ := K (pl c j, cBar))
      (d := j.rev) (r := 0) (mem_duty m (pl c j) cBar j.rev)
      (amount_cell m (pl c j) cBar j.rev) () (O₀ := owe c ((none, j) :: l)) (owe c l) rfl (W := W)) $$ [HO Ht Hs]
  · isplitr; · iapply (facts_inv m K (pl c j) cBar); iexact Hf
    isplitl [HO]; · iexact HO
    isplitl [Ht]; · iexact Ht
    isplitl [Hs]
    · rw [show (gRd m).payload ((pl c j : Thread nD τ), SemLoc.reg barS) 0 j.rev = slots c j.rev from
        (payload_cell m (pl c j) cBar j.rev).trans (barPay_eq c j)]
      iexact Hs
    iapply (facts_reached m K (pl c j) cBar); iexact Hf
  iintro HO
  iapply Hk
  iexists W; iexact HO

/-- The barrier wait, for all seven: the seven devices' slots this device will write. -/
theorem barwait_step (c : Dev nD) (l : List Item) (hl : ∀ x ∈ l, clev cBar < clev (ixc x.1)) {k' : ℕ} (hk : k' = 7)
    {k : PUnit → Prog (TpuEff nD τ sig (Elt F) Λ₀ .tc) α} {Kt : α → sProp 𝕄} :
    iprop(facts m K ∗ cred (tallyAt (cell c cBar) () 7) ∗ owesE c l ∗ atPos ER (cell c cBar) 0 ∅ 0)
      ⊢ iprop(((owesE c l ∗ atPos ER (cell c cBar) 1 ∅ 0 ∗ bigSep Finset.univ fun i => barPay c i)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.semWait barS k') k) Kt) := by
  subst hk
  unfold owesE
  iintro ⟨#Hf, Hc, ⟨%W, HO⟩, Hat⟩ Hk
  iapply (Rounds.wp_wait_rest_token 𝒱₀ ER (gRd m) (c : Thread nD τ) none (sm := csem cBar) (κ := K (c, cBar))
      (wpE_semWait_eq 𝒱₀ (c : Thread nD τ) none Set.univ) (Set.mem_univ _) () (O := owe c l) (W := W) (R := 0) (m := 0) (T := ∅)
      (by rw [expect_cell]; rfl)) $$ [Hc HO Hat]
  · isplitr; · iapply (facts_inv m K c cBar); iexact Hf
    isplitl [Hc]; · iexact Hc
    isplitl [HO]; · iexact HO
    isplitr; · iapply (mayWait_cell c cBar l hl); iapply (facts_lev m K); iexact Hf
    iexact Hat
  iintro ⟨HO, Hat, -, Hp⟩
  iapply Hk
  isplitl [HO]; · iexists _; iexact HO
  isplitl [Hat]; · iexact Hat
  rw [Finset.sdiff_empty, duties_cell]
  iapply (Entails.of_eq (bigSep_congr (s := Finset.univ) fun i _ => payload_cell m c cBar i)); iexact Hp

/-- What the transfer of layer `k` to the device `j + 1` places on uses: a share of the partial-sum slot, that device's
    slot, and the two duties it pays. -/
def sendRes (c : Dev nD) (k : Fin 3) (j : Fin 7) : sProp 𝕄 :=
  iprop(pPts c k (shareTok fullShare 7 j) (pCan m k c) ∗ (∃ f, gPts (pl c j) k j f)
    ∗ dutyTok ER (cell c (cSend k)) 0 j ∗ dutyTok ER (cell (pl c j) (cRecv k)) 0 j)

theorem landed (c : Dev nD) (k : Fin 3) (j : Fin 7) (fd : Buf (Elt F) ((gathM k j).view.loc (pl c j : Thread nD τ))) :
    ((gathM k j).view.loc (pl c j : Thread nD τ) ↦[(gathM k j).view.set]{fullShare}
        ((gathM k j).view.write (Elt F) fd ((partM k).view.read (Elt F) (pCan m k c)) Finset.univ) : sProp 𝕄)
      ⊢ gPts (pl c j) k j (gCan m k j (pl c j)) := by
  unfold gPts gCan pCan
  rw [View.read_write_univ, mi_pl]
  exact Entails.of_eq (View.pointsTo_write_univ_congr (c := (pl c j : Thread nD τ)) (gathM k j).view fullShare _ _ _)

/-- The transfer of layer `k` to the device `j + 1` places on. -/
theorem send_step (c n : Dev nD) (k : Fin 3) (j : Fin 7) (hn : n = pl c j)
    (src dst : Memref sig .tc .vmem S256x256 .bf16) (hs : src = partM k) (hd : dst = gathM k j)
    (sS sR : DmaSem sig) (hsS : sS = sendS k) (hsR : sR = recvS k) (l : List Item)
    {hsc : (show Memref sig (Dev.tc n : Thread nD τ).2.kind .vmem S256x256 .bf16 from dst).view.ref.isScScratch = false}
    {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Kt : α → sProp 𝕄} :
    iprop(facts m K ∗ owesE c ((some k, j) :: l) ∗ sendRes m c k j)
      ⊢ iprop(((owesE c l ∗ cred (tallyAt (cell c (cSend k)) () N)) -∗ wp frame (wpE (defs₀ (F := F)) 𝒱₀ (c : Thread nD τ) none) Set.univ (kk ⟨⟩) Kt)
          -∗ wp frame (wpE (defs₀ (F := F)) 𝒱₀ (c : Thread nD τ) none) Set.univ
              (.op (.enqueueDma src (.remote (Dev.tc n : Thread nD τ) dst (.dma sS) hsc) (.dma sR) hsrc hdst hsem) kk) Kt) := by
  subst hn hs hd hsS hsR
  unfold owesE sendRes pPts gPts
  iintro ⟨#Hf, ⟨%W, HO⟩, Hp, ⟨%fd, Hg⟩, Ht1, Ht2⟩ Hk
  iapply (Rounds.wp_send_pointsTo 𝒱₀ ER (gRd m) (c : Thread nD τ) none (κ₁ := K (c, cSend k)) (κ₂ := K (pl c j, cRecv k))
    (r₁ := 0) (r₂ := 0) (d₁ := j) (d₂ := j) (fd := fd) (fs := pCan m k c) (q := shareTok fullShare 7 j)
    (mem_duty m c (cSend k) j) (mem_duty m (pl c j) (cRecv k) j)
    () () N rfl (amount_cell m c (cSend k) j) (amount_cell m (pl c j) (cRecv k) j) (O₀ := owe c ((some k, j) :: l)) (owe c l) rfl (W := W)
    (Entails.of_eq (payload_cell m c (cSend k) j).symm)
    ((landed m c k j fd).trans (Entails.of_eq (payload_cell m (pl c j) (cRecv k) j).symm)))
    $$ [HO Hp Hg Ht1 Ht2]
  · isplitr; · iapply (facts_inv m K c (cSend k)); iexact Hf
    isplitr; · iapply (facts_inv m K (pl c j) (cRecv k)); iexact Hf
    isplitl [Hp]; · iexact Hp
    isplitl [Hg]; · iexact Hg
    isplitl [HO]; · iexact HO
    isplitl [Ht1]; · iexact Ht1
    isplitr; · iapply (facts_reached m K c (cSend k)); iexact Hf
    isplitl [Ht2]; · iexact Ht2
    iapply (facts_reached m K (pl c j) (cRecv k)); iexact Hf
  iintro ⟨Hc, HO⟩
  iapply Hk
  isplitl [HO]; · iexists W; iexact HO
  iexact Hc

/-! ## The waits of one cell, one after another -/

/-- After `n` of a cell's seven waits: some of the duties taken, with what they handed over. -/
def waiting (c : Dev nD) (x : Cx) (n : ℕ) : sProp 𝕄 :=
  iprop(∃ T : Finset (Fin 7), atPos ER (cell c x) 0 T (n * N) ∗ bigSep T fun i => pay m c x i)
/-- After all seven: the next round open and everything handed over. -/
def waited (c : Dev nD) (x : Cx) : sProp 𝕄 :=
  iprop(atPos ER (cell c x) 1 ∅ 0 ∗ bigSep Finset.univ fun i => pay m c x i)

theorem waiting_zero (c : Dev nD) (x : Cx) : atPos ER (cell c x) 0 ∅ 0 ⊢ waiting m c x 0 := by
  unfold waiting
  iintro H
  iexists ∅
  rw [Nat.zero_mul, bigSep_empty]
  isplitl [H]; · iexact H
  iempintro

/-- A wait that is not the cell's last. -/
theorem wait_step (c : Dev nD) (x : Fin 3 ⊕ Fin 3) (n : ℕ) (l : List Item) (hl : ∀ y ∈ l, clev (.inr x) < clev (ixc y.1))
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem (.inr x)) N K)
    {k : PUnit → Prog (TpuEff nD τ sig (Elt F) Λ₀ .tc) α} {Kt : α → sProp 𝕄} :
    iprop(facts m K ∗ cred (tallyAt (cell c (.inr x)) () N) ∗ owesE c l ∗ waiting m c (.inr x) n)
      ⊢ iprop(((owesE c l ∗ waiting m c (.inr x) (n + 1)) -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  unfold owesE waiting
  iintro ⟨#Hf, Hc, ⟨%W, HO⟩, ⟨%T, Hat, Hb⟩⟩ Hk
  iapply (Rounds.wp_wait 𝒱₀ ER (gRd m) (c : Thread nD τ) none (κ := K (c, .inr x)) hw (Set.mem_univ _) (cr := Finsupp.single () N)
      (O := owe c l) (W := W) {(csem (.inr x), ())} (R := 0) (m := n * N) (T := T)
      (by rw [Util.total_single]) (image_single_subset _ _ _)) $$ [Hc HO Hat]
  · isplitr; · iapply (facts_inv m K c (.inr x)); iexact Hf
    isplitl [Hc]; · iexact Hc
    isplitl [HO]; · iexact HO
    isplitr; · iapply (mayWait_cell c (.inr x) l hl); iapply (facts_lev m K); iexact Hf
    iexact Hat
  iintro %S ⟨%hS, HO, Hat, Hp⟩
  iapply Hk
  isplitl [HO]; · iexists _; iexact HO
  iexists S
  rw [Nat.add_mul, Nat.one_mul]
  isplitl [Hat]; · iexact Hat
  iapply (join_part hS.1 (fun i => pay m c (.inr x) i))
  isplitl [Hb]; · iexact Hb
  iapply (Entails.of_eq (bigSep_congr (s := S \ T) fun i _ => payload_cell m c (.inr x) i)); iexact Hp

/-- The cell's last wait. -/
theorem lastwait_step (c : Dev nD) (x : Fin 3 ⊕ Fin 3) (l : List Item) (hl : ∀ y ∈ l, clev (.inr x) < clev (ixc y.1))
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem (.inr x)) N K)
    {k : PUnit → Prog (TpuEff nD τ sig (Elt F) Λ₀ .tc) α} {Kt : α → sProp 𝕄} :
    iprop(facts m K ∗ cred (tallyAt (cell c (.inr x)) () N) ∗ owesE c l ∗ waiting m c (.inr x) 6)
      ⊢ iprop(((owesE c l ∗ waited m c (.inr x)) -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  unfold owesE waiting waited
  iintro ⟨#Hf, Hc, ⟨%W, HO⟩, ⟨%T, Hat, Hb⟩⟩ Hk
  iapply (Rounds.wp_wait_rest_token 𝒱₀ ER (gRd m) (c : Thread nD τ) none (κ := K (c, .inr x)) hw (Set.mem_univ _) ()
      (O := owe c l) (W := W) (R := 0) (m := 6 * N) (T := T)
      (by rw [expect_cell]; show 6 * N + N = 7 * N; omega)) $$ [Hc HO Hat]
  · isplitr; · iapply (facts_inv m K c (.inr x)); iexact Hf
    isplitl [Hc]; · iexact Hc
    isplitl [HO]; · iexact HO
    isplitr; · iapply (mayWait_cell c (.inr x) l hl); iapply (facts_lev m K); iexact Hf
    iexact Hat
  iintro ⟨HO, Hat, -, Hp⟩
  iapply Hk
  isplitl [HO]; · iexists _; iexact HO
  isplitl [Hat]; · iexact Hat
  rw [duties_cell]
  iapply (join_part (Finset.subset_univ T) (fun i => pay m c (.inr x) i))
  isplitl [Hb]; · iexact Hb
  iapply (Entails.of_eq (bigSep_congr (s := Finset.univ \ T) fun i _ => payload_cell m c (.inr x) i)); iexact Hp

/-- The send wait and the receive wait of the program are waits for one slot's credit on their cells. -/
theorem sendw (c : Dev nD) (k : Fin 3) (s : DmaSem sig) (a b : Memref sig .tc .vmem S256x256 .bf16) (hs : s = sendS k) (hb : b = partM k)
    {ha : a.view.WordExact} {hb' : b.view.WordExact} (K : PUnit → sProp 𝕄) :
    wpE (defs₀ (F := F)) 𝒱₀ (c : Thread nD τ) none Set.univ (.waitDma2 s a b ha hb') K
      = waitSpec (c : Thread nD τ) Set.univ (csem (.inr (.inl k))) N K := by
  subst hs hb
  rw [wpE_waitDma2_eq 𝒱₀ (c : Thread nD τ) none Set.univ, ← credit_part k]; rfl
theorem recvw (c : Dev nD) (k : Fin 3) (j : Fin 7) (s : DmaSem sig) (a b : Memref sig .tc .vmem S256x256 .bf16) (hs : s = recvS k) (hb : b = gathM k j)
    {ha : a.view.WordExact} {hb' : b.view.WordExact} (K : PUnit → sProp 𝕄) :
    wpE (defs₀ (F := F)) 𝒱₀ (c : Thread nD τ) none Set.univ (.waitDma2 s a b ha hb') K
      = waitSpec (c : Thread nD τ) Set.univ (csem (.inr (.inr k))) N K := by
  subst hs hb
  rw [wpE_waitDma2_eq 𝒱₀ (c : Thread nD τ) none Set.univ]; rfl

/-! ## The loads and the stores of the slots -/

/-- A rounded partial sum as the slot's load shows it. -/
def up (v : FVec F S256x256 .bf16) : Vec F S1x1x256x256 .bf16 :=
  fun x => v (Shape.reshapeEquiv (squeezes_S1x1x256x256_S256x256 : S1x1x256x256.Squeezes S256x256).numel_eq.symm x)

theorem down_up (v : FVec F S256x256 .bf16) : (shapeCast S256x256 (up v) shapeCasts_S1x1x256x256_S256x256 : FVec F S256x256 .bf16) = v := by
  funext i
  show v (Shape.reshapeEquiv _ (Shape.reshapeEquiv _ i)) = v i
  rw [Shape.reshapeEquiv_reshapeEquiv, Shape.reshapeEquiv_self]

theorem read_gath (c : Dev nD) (k : Fin 3) (j : Fin 7) :
    gathB.view.readAt (Elt F) (rG k j).toLoadRect (gCan m k j c) = up (bk m k (mi c j)) := by
  unfold gCan
  rw [View.readAt_rect]
  show (gathB.view.slice (rG k j)).read (Elt F) (((gathB.view.slice (rG k j)).reshape S256x256 squeezes_S1x1x256x256_S256x256.numel_eq).write (Elt F) _ _ Finset.univ) = _
  rw [View.write_reshape_univ, View.read_write_univ]
  funext x
  show bk m k (mi c j) ((Shape.reshapeEquiv _).symm x) = bk m k (mi c j) (Shape.reshapeEquiv _ x)
  rw [Shape.reshapeEquiv_symm]

theorem gload_step (c : Dev nD) (k : Fin 3) (j : Fin 7) {hl : gathB.view.LoadsAt (rG k j).toLoadRect}
    {kk : ((rG k j).toLoadRect.shape.Idx → Elt F .bf16) → Prog (TpuEff nD τ sig (Elt F) Λ₀ .tc) α} {Kt : α → sProp 𝕄} :
    (gPts c k j (gCan m k j c))
      ⊢ iprop((gPts c k j (gCan m k j c) -∗ wp frame (wpE (defs₀ (F := F)) 𝒱₀ (c : Thread nD τ) none) Set.univ (kk (up (bk m k (mi c j)))) Kt)
          -∗ wp frame (wpE (defs₀ (F := F)) 𝒱₀ (c : Thread nD τ) none) Set.univ (.op (.load gathB (rG k j).toLoadRect hl) kk) Kt) := by
  rw [← read_gath m c k j]
  unfold gPts
  exact wp_load 𝒱₀ (c : Thread nD τ) none Set.univ (m := gathB) (r := (rG k j).toLoadRect) (S := (gathM k j).view.set) (by
    rw [show (gathM k j).view.set = (gathB.view.slice (rG k j)).set from View.set_reshape _ _]
    rw [View.set_slice]; exact Finset.Subset.refl _)

theorem pload_step (c : Dev nD) (k : Fin 3) (f) {hl : partB.view.LoadsAt (rP k).toLoadRect}
    {kk : ((rP k).toLoadRect.shape.Idx → Elt F .bf16) → Prog (TpuEff nD τ sig (Elt F) Λ₀ .tc) α} {Kt : α → sProp 𝕄} :
    (pPts c k fullShare f)
      ⊢ iprop((pPts c k fullShare f -∗ wp frame (wpE (defs₀ (F := F)) 𝒱₀ (c : Thread nD τ) none) Set.univ (kk (partB.view.readAt (Elt F) (rP k).toLoadRect f)) Kt)
          -∗ wp frame (wpE (defs₀ (F := F)) 𝒱₀ (c : Thread nD τ) none) Set.univ (.op (.load partB (rP k).toLoadRect hl) kk) Kt) := by
  unfold pPts
  exact wp_load 𝒱₀ (c : Thread nD τ) none Set.univ (m := partB) (r := (rP k).toLoadRect) (S := (partM k).view.set) (by
    rw [show (partM k).view.set = (partB.view.slice (rP k)).set from View.set_reshape _ _]
    rw [View.set_slice]; exact Finset.Subset.refl _)

theorem stored (c : Dev nD) (k : Fin 3) (f : Buf (Elt F) ((partM k).view.loc (c : Thread nD τ))) (v : FVec F S256x256 .bf16) (hv : v = bk m k c) :
    ((partM k).view.loc (c : Thread nD τ) ↦[(partM k).view.set]{fullShare}
        ((partB.access (rP k)).write (Elt F) f (shapeCast S1x256x256 v shapeCasts_S256x256_S1x256x256) Finset.univ) : sProp 𝕄)
      ⊢ (partM k).view.loc (c : Thread nD τ) ↦[(partM k).view.set]{fullShare} pCan m k c := by
  subst hv
  unfold pCan
  rw [show (partB.access (rP k)).write (Elt F) f (shapeCast S1x256x256 (bk m k c) shapeCasts_S256x256_S1x256x256) Finset.univ
      = (partM k).view.write (Elt F) f (bk m k c) Finset.univ from by
    show _ = ((partB.view.slice (rP k)).reshape S256x256 squeezes_S1x256x256_S256x256.numel_eq).write (Elt F) f (bk m k c) Finset.univ
    rw [View.write_reshape_univ, Shape.reshapeEquiv_symm]; rfl]
  exact Entails.of_eq (View.pointsTo_write_univ_congr (c := (c : Thread nD τ)) (partM k).view fullShare _ _ _)

theorem pstore_step (c : Dev nD) (k : Fin 3) (f) (v : FVec F S256x256 .bf16) (hv : v = bk m k c)
    {w : (rP k).shape.Idx → Elt F .bf16} (hw : w = shapeCast S1x256x256 v shapeCasts_S256x256_S1x256x256)
    {hx : (partB.access (rP k)).Stores Finset.univ} {hm : (Finset.univ : Finset (rP k).shape.Idx) = Finset.univ ∨ ∀ a, (rP k).stride a = 1}
    {kk : PUnit → Prog (TpuEff nD τ sig (Elt F) Λ₀ .tc) α} {Kt : α → sProp 𝕄} :
    (pPts c k fullShare f)
      ⊢ iprop((pPts c k fullShare (pCan m k c) -∗ wp frame (wpE (defs₀ (F := F)) 𝒱₀ (c : Thread nD τ) none) Set.univ (kk ⟨⟩) Kt)
          -∗ wp frame (wpE (defs₀ (F := F)) 𝒱₀ (c : Thread nD τ) none) Set.univ (.op (.store partB (rP k) w Finset.univ hx hm) kk) Kt) := by
  subst hw
  unfold pPts
  iintro H Hk
  iapply (wp_store 𝒱₀ (c : Thread nD τ) none Set.univ (m := partB) (r := rP k) (Mk := Finset.univ) (S := (partM k).view.set) (f := f) (by
    rw [show (partM k).view.set = (partB.view.slice (rP k)).set from View.set_reshape _ _, View.setOn_univ])) $$ H
  iintro H
  iapply Hk
  iapply (stored m c k f v hv); iexact H

end Cert.AllGather

end
-- ==== Proof.Phases.lean ====
/-
The states the program passes through between its operations: signals still to give, transfers still to start, waits
still to make; one lemma per operation from each state to the next.
-/
module

public import proofs.«01_k».proof.Proof.Steps

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

/-- The seven numbers. -/
abbrev all7 : List (Fin 7) := [0, 1, 2, 3, 4, 5, 6]

/-- Layer `k`'s seven transfers, as owed. -/
def layerItems (k : Fin 3) (l : List (Fin 7)) : List Item := l.map fun j => (some k, j)
/-- What is still owed once layer `k`'s transfers are under way; what is owed once the signals are given. -/
def rest : Fin 3 → List Item
  | 0 => layerItems 1 all7 ++ layerItems 2 all7
  | 1 => layerItems 2 all7
  | 2 => []
def comm : List Item := layerItems 0 all7 ++ rest 0

/-! ## Signals -/

/-- What the signals numbered in `l` still need. -/
def sigRes (c : Dev nD) : List (Fin 7) → sProp 𝕄
  | [] => iprop(emp)
  | j :: l => iprop((dutyTok ER (cell (pl c j) cBar) 0 j.rev ∗ slots c j.rev) ∗ sigRes c l)

def sigSt (c : Dev nD) (l : List (Fin 7)) : sProp 𝕄 :=
  iprop(owesE c (l.map (fun j => (none, j)) ++ comm) ∗ sigRes c l)

theorem sig_st {α : Type} {Kt : α → sProp 𝕄} (c n : Dev nD) (j : Fin 7) (hn : n = pl c j) (l : List (Fin 7)) {k' : ℕ} (hk : k' = 1)
    {k : PUnit → Prog (TpuEff nD τ sig (Elt F) Λ₀ .tc) α} :
    iprop(facts m K ∗ sigSt c (j :: l))
      ⊢ iprop((sigSt c l -∗ wp frame (wpE (defs₀ (F := F)) 𝒱₀ (c : Thread nD τ) none) Set.univ (k ⟨⟩) Kt)
          -∗ wp frame (wpE (defs₀ (F := F)) 𝒱₀ (c : Thread nD τ) none) Set.univ
              (.op (.semSignal (Dev.tc n : Thread nD τ) barS k') k) Kt) := by
  unfold sigSt
  rw [show sigRes (F := F) c (j :: l) = iprop((dutyTok ER (cell (pl c j) cBar) 0 j.rev ∗ slots c j.rev) ∗ sigRes c l) from rfl,
    show ((j :: l).map (fun j => ((none : Option (Fin 3)), j)) ++ comm) = (none, j) :: (l.map (fun j => (none, j)) ++ comm) from rfl]
  iintro ⟨#Hf, HO, ⟨Ht, Hs⟩, Hr⟩ Hk
  iapply (signal_step m K c n j hn (l.map (fun j => (none, j)) ++ comm) hk) $$ [HO Ht Hs]
  · isplitr; · iexact Hf
    isplitl [HO]; · iexact HO
    isplitl [Ht]; · iexact Ht
    iexact Hs
  iintro HO
  iapply Hk
  isplitl [HO]; · iexact HO
  iexact Hr

/-! ## Transfers -/

/-- What the transfers of layer `k` numbered in `l` still need. -/
def resL (c : Dev nD) (k : Fin 3) : List (Fin 7) → sProp 𝕄
  | [] => iprop(emp)
  | j :: l => iprop(sendRes m c k j ∗ resL c k l)

/-- `n` slots' worth of credit on a cell, one slot at a time. -/
def creds (g : GSem nD τ sig) : ℕ → sProp 𝕄
  | 0 => iprop(emp)
  | n + 1 => iprop(cred (tallyAt g () N) ∗ creds g n)

def sendSt (c : Dev nD) (k : Fin 3) (l : List (Fin 7)) (n : ℕ) : sProp 𝕄 :=
  iprop(owesE c (layerItems k l ++ rest k) ∗ resL m c k l ∗ creds (F := F) (cell c (cSend k)) n)

theorem send_st {α : Type} {Kt : α → sProp 𝕄} (c d : Dev nD) (k : Fin 3) (j : Fin 7) (hn : d = pl c j)
    (src dst : Memref sig .tc .vmem S256x256 .bf16) (hs : src = partM k) (hd : dst = gathM k j)
    (sS sR : DmaSem sig) (hsS : sS = sendS k) (hsR : sR = recvS k) (l : List (Fin 7)) (n : ℕ)
    {hsc : (show Memref sig (Dev.tc d : Thread nD τ).2.kind .vmem S256x256 .bf16 from dst).view.ref.isScScratch = false}
    {hsrc : src.view.WordExact} {hdst : dst.view.WordExact}
    {hsem : DmaTarget.Typed .vmem (.dma sR) (.remote (Dev.tc d : Thread nD τ) dst (.dma sS) hsc)}
    {kk : PUnit → Prog (TpuEff nD τ sig (Elt F) Λ₀ .tc) α} :
    iprop(facts m K ∗ sendSt m c k (j :: l) n)
      ⊢ iprop((sendSt m c k l (n + 1) -∗ wp frame (wpE (defs₀ (F := F)) 𝒱₀ (c : Thread nD τ) none) Set.univ (kk ⟨⟩) Kt)
          -∗ wp frame (wpE (defs₀ (F := F)) 𝒱₀ (c : Thread nD τ) none) Set.univ
              (.op (.enqueueDma src (.remote (Dev.tc d : Thread nD τ) dst (.dma sS) hsc) (.dma sR) hsrc hdst hsem) kk) Kt) := by
  unfold sendSt
  rw [show resL m c k (j :: l) = iprop(sendRes m c k j ∗ resL m c k l) from rfl,
    show layerItems k (j :: l) ++ rest k = (some k, j) :: (layerItems k l ++ rest k) from rfl,
    show creds (F := F) (cell c (cSend k)) (n + 1) = iprop(cred (tallyAt (cell c (cSend k)) () N) ∗ creds (cell c (cSend k)) n) from rfl]
  iintro ⟨#Hf, HO, ⟨Hs, Hr⟩, Hc⟩ Hk
  iapply (send_step m K c d k j hn src dst hs hd sS sR hsS hsR (layerItems k l ++ rest k)) $$ [HO Hs]
  · isplitr; · iexact Hf
    isplitl [HO]; · iexact HO
    iexact Hs
  iintro ⟨HO, Hc1⟩
  iapply Hk
  isplitl [HO]; · iexact HO
  isplitl [Hr]; · iexact Hr
  isplitl [Hc1]; · iexact Hc1
  iexact Hc

/-! ## Waits -/

/-- A cell with `n` of its seven waits still to make, their credit at hand. -/
def wRem (c : Dev nD) (x : Cx) : ℕ → sProp 𝕄
  | 0 => waited m c x
  | n + 1 => iprop(creds (F := F) (cell c x) (n + 1) ∗ waiting m c x (6 - n))

theorem wRem_step {α : Type} {Kt : α → sProp 𝕄} (c : Dev nD) (x : Fin 3 ⊕ Fin 3) (n : ℕ) (hn : n < 7) (l : List Item)
    (hl : ∀ y ∈ l, clev (.inr x) < clev (ixc y.1))
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem (.inr x)) N K)
    {k : PUnit → Prog (TpuEff nD τ sig (Elt F) Λ₀ .tc) α} :
    iprop(facts m K ∗ owesE c l ∗ wRem m c (.inr x) (n + 1))
      ⊢ iprop(((owesE c l ∗ wRem m c (.inr x) n) -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  rw [show wRem m c (.inr x) (n + 1) = iprop(creds (F := F) (cell c (.inr x)) (n + 1) ∗ waiting m c (.inr x) (6 - n)) from rfl,
    show creds (F := F) (cell c (.inr x)) (n + 1) = iprop(cred (tallyAt (cell c (.inr x)) () N) ∗ creds (cell c (.inr x)) n) from rfl]
  cases n with
  | zero =>
    rw [show wRem m c (.inr x) 0 = waited m c (.inr x) from rfl]
    iintro ⟨#Hf, HO, ⟨Hc, -⟩, Hw⟩ Hk
    iapply (lastwait_step m K c x l hl hw) $$ [HO Hc Hw]
    · isplitr; · iexact Hf
      isplitl [Hc]; · iexact Hc
      isplitl [HO]; · iexact HO
      iexact Hw
    iexact Hk
  | succ n =>
    rw [show wRem m c (.inr x) (n + 1) = iprop(creds (F := F) (cell c (.inr x)) (n + 1) ∗ waiting m c (.inr x) (6 - n)) from rfl]
    iintro ⟨#Hf, HO, ⟨Hc, Hcs⟩, Hw⟩ Hk
    iapply (wait_step m K c x (6 - (n + 1)) l hl hw) $$ [HO Hc Hw]
    · isplitr; · iexact Hf
      isplitl [Hc]; · iexact Hc
      isplitl [HO]; · iexact HO
      iexact Hw
    iintro ⟨HO, Hw⟩
    iapply Hk
    isplitl [HO]; · iexact HO
    isplitl [Hcs]; · iexact Hcs
    rw [show 6 - (n + 1) + 1 = 6 - n by omega]
    iexact Hw

/-- Layer `k` with `a` send waits and `b` receive waits to go. -/
def waitSt (c : Dev nD) (k : Fin 3) (a b : ℕ) : sProp 𝕄 :=
  iprop(owesE c (rest k) ∗ wRem m c (cSend k) a ∗ wRem m c (cRecv k) b)

theorem rest_send (k : Fin 3) : ∀ y ∈ rest k, clev (cSend k) < clev (ixc y.1) := by revert k; decide
theorem rest_recv (k : Fin 3) : ∀ y ∈ rest k, clev (cRecv k) < clev (ixc y.1) := by revert k; decide
theorem comm_bar : ∀ y ∈ comm, clev cBar < clev (ixc y.1) := by decide

theorem swait_st {α : Type} {Kt : α → sProp 𝕄} (c : Dev nD) (k : Fin 3) (a b : ℕ) (ha : a < 7)
    (s : DmaSem sig) (u v : Memref sig .tc .vmem S256x256 .bf16) (hs : s = sendS k) (hv : v = partM k)
    {hu' : u.view.WordExact} {hv' : v.view.WordExact}
    {kk : PUnit → Prog (TpuEff nD τ sig (Elt F) Λ₀ .tc) α} :
    iprop(facts m K ∗ waitSt m c k (a + 1) b)
      ⊢ iprop((waitSt m c k a b -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 s u v hu' hv') kk) Kt) := by
  unfold waitSt
  iintro ⟨#Hf, HO, Hs, Hr⟩ Hk
  iapply (wRem_step m K c (.inl k) a ha (rest k) (rest_send k) (sendw c k s u v hs hv)) $$ [HO Hs]
  · isplitr; · iexact Hf
    isplitl [HO]; · iexact HO
    iexact Hs
  iintro ⟨HO, Hs⟩
  iapply Hk
  isplitl [HO]; · iexact HO
  isplitl [Hs]; · iexact Hs
  iexact Hr

theorem rwait_st {α : Type} {Kt : α → sProp 𝕄} (c : Dev nD) (k : Fin 3) (j : Fin 7) (a b : ℕ) (hb : b < 7)
    (s : DmaSem sig) (u v : Memref sig .tc .vmem S256x256 .bf16) (hs : s = recvS k) (hv : v = gathM k j)
    {hu' : u.view.WordExact} {hv' : v.view.WordExact}
    {kk : PUnit → Prog (TpuEff nD τ sig (Elt F) Λ₀ .tc) α} :
    iprop(facts m K ∗ waitSt m c k a (b + 1))
      ⊢ iprop((waitSt m c k a b -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 s u v hu' hv') kk) Kt) := by
  unfold waitSt
  iintro ⟨#Hf, HO, Hs, Hr⟩ Hk
  iapply (wRem_step m K c (.inr k) b hb (rest k) (rest_recv k) (recvw c k j s u v hs hv)) $$ [HO Hr]
  · isplitr; · iexact Hf
    isplitl [HO]; · iexact HO
    iexact Hr
  iintro ⟨HO, Hr⟩
  iapply Hk
  isplitl [HO]; · iexact HO
  isplitl [Hs]; · iexact Hs
  iexact Hr

/-- All transfers started: the waits begin. -/
theorem to_waits (c : Dev nD) (k : Fin 3) :
    iprop(sendSt m c k [] 7 ∗ atPos ER (cell c (cSend k)) 0 ∅ 0 ∗ wRem m c (cRecv k) 7) ⊢ waitSt m c k 7 7 := by
  unfold sendSt waitSt
  rw [show wRem m c (cSend k) 7 = iprop(creds (F := F) (cell c (cSend k)) 7 ∗ waiting m c (cSend k) 0) from rfl,
    show layerItems k [] ++ rest k = rest k from rfl]
  iintro ⟨⟨HO, -, Hc⟩, Hat, Hr⟩
  isplitl [HO]; · iexact HO
  isplitr [Hr]
  · isplitl [Hc]; · iexact Hc
    iapply (waiting_zero m c (cSend k)); iexact Hat
  iexact Hr

/-! ## Loads -/

/-- Layer `k`'s seven slots on `c`, filled. -/
def gAll (c : Dev nD) (k : Fin 3) : sProp 𝕄 := bigSep Finset.univ fun i : Fin 7 => gPts c k i (gCan m k i c)

theorem gload_st {α : Type} {Kt : α → sProp 𝕄} (c : Dev nD) (k : Fin 3) (j : Fin 7) {hl : gathB.view.LoadsAt (rG k j).toLoadRect}
    {kk : ((rG k j).toLoadRect.shape.Idx → Elt F .bf16) → Prog (TpuEff nD τ sig (Elt F) Λ₀ .tc) α} :
    (gAll m c k)
      ⊢ iprop((gAll m c k -∗ wp frame (wpE (defs₀ (F := F)) 𝒱₀ (c : Thread nD τ) none) Set.univ (kk (up (bk m k (mi c j)))) Kt)
          -∗ wp frame (wpE (defs₀ (F := F)) 𝒱₀ (c : Thread nD τ) none) Set.univ (.op (.load gathB (rG k j).toLoadRect hl) kk) Kt) := by
  unfold gAll
  rw [bigSep_univ_at (fun i : Fin 7 => gPts c k i (gCan m k i c)) j]
  iintro ⟨Hg, Hr⟩ Hk
  iapply (gload_step m c k j) $$ Hg
  iintro Hg
  iapply Hk
  isplitl [Hg]; · iexact Hg
  iexact Hr

/-- A staged window. -/
def stgP (c : Dev nD) (b : Ref sig .tc) (X : b.ty.Contents (Elt F)) : sProp 𝕄 := ((c : Thread nD τ).loc b) ↦{fullShare} X

theorem hz2 : (![0, 0] : Fin 2 → ℕ) = fun _ => 0 := by decide

theorem wload0 {α : Type} {Kt : α → sProp 𝕄} (c : Dev nD) (X : (cc0_stg0_0 : Ref sig .tc).ty.Contents (Elt F))
    {inb : ∀ a, (![0, 0] : Fin 2 → ℕ) a + S256x256.size a ≤ S256x256.size a}
    {hl : (Memref.whole cc0_stg0_0 : Memref sig .tc .vmem S256x256 .bf16).view.LoadsAt (Rect.unit (s := S256x256) ![0, 0] S256x256.size inb).toLoadRect}
    {kk : (S256x256.Idx → Elt F .bf16) → Prog (TpuEff nD τ sig (Elt F) Λ₀ .tc) α} :
    (stgP c cc0_stg0_0 X)
      ⊢ iprop((stgP c cc0_stg0_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg0_0 : Memref sig .tc .vmem S256x256 .bf16) (Rect.unit (s := S256x256) ![0, 0] S256x256.size inb).toLoadRect hl) kk) Kt) := by
  have h := wp_load (Γ := PendingWaitsCtx.empty) (Q := Kt) 𝒱₀ (c : Thread nD τ) none Set.univ (defs := defs₀ (F := F)) (m := (Memref.whole cc0_stg0_0 : Memref sig .tc .vmem S256x256 .bf16))
    (r := (Rect.unit (s := S256x256) ![0, 0] S256x256.size inb).toLoadRect) (hl := hl) (k := kk) (S := Finset.univ) (q := fullShare) (f := X) (Finset.subset_univ _)
  rw [show (Memref.whole cc0_stg0_0 : Memref sig .tc .vmem S256x256 .bf16).view.readAt (Elt F) (Rect.unit (s := S256x256) ![0, 0] S256x256.size inb).toLoadRect X = X from
    Memref.readAt_unit_zero (Elt F) cc0_stg0_0 hz2 _ X] at h
  exact h
theorem wload1 {α : Type} {Kt : α → sProp 𝕄} (c : Dev nD) (X : (cc0_stg1_0 : Ref sig .tc).ty.Contents (Elt F))
    {inb : ∀ a, (![0, 0] : Fin 2 → ℕ) a + S256x512.size a ≤ S256x512.size a}
    {hl : (Memref.whole cc0_stg1_0 : Memref sig .tc .vmem S256x512 .bf16).view.LoadsAt (Rect.unit (s := S256x512) ![0, 0] S256x512.size inb).toLoadRect}
    {kk : (S256x512.Idx → Elt F .bf16) → Prog (TpuEff nD τ sig (Elt F) Λ₀ .tc) α} :
    (stgP c cc0_stg1_0 X)
      ⊢ iprop((stgP c cc0_stg1_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg1_0 : Memref sig .tc .vmem S256x512 .bf16) (Rect.unit (s := S256x512) ![0, 0] S256x512.size inb).toLoadRect hl) kk) Kt) := by
  have h := wp_load (Γ := PendingWaitsCtx.empty) (Q := Kt) 𝒱₀ (c : Thread nD τ) none Set.univ (defs := defs₀ (F := F)) (m := (Memref.whole cc0_stg1_0 : Memref sig .tc .vmem S256x512 .bf16))
    (r := (Rect.unit (s := S256x512) ![0, 0] S256x512.size inb).toLoadRect) (hl := hl) (k := kk) (S := Finset.univ) (q := fullShare) (f := X) (Finset.subset_univ _)
  rw [show (Memref.whole cc0_stg1_0 : Memref sig .tc .vmem S256x512 .bf16).view.readAt (Elt F) (Rect.unit (s := S256x512) ![0, 0] S256x512.size inb).toLoadRect X = X from
    Memref.readAt_unit_zero (Elt F) cc0_stg1_0 hz2 _ X] at h
  exact h
theorem wload2 {α : Type} {Kt : α → sProp 𝕄} (c : Dev nD) (X : (cc0_stg2_0 : Ref sig .tc).ty.Contents (Elt F))
    {inb : ∀ a, (![0, 0] : Fin 2 → ℕ) a + S512x256.size a ≤ S512x256.size a}
    {hl : (Memref.whole cc0_stg2_0 : Memref sig .tc .vmem S512x256 .bf16).view.LoadsAt (Rect.unit (s := S512x256) ![0, 0] S512x256.size inb).toLoadRect}
    {kk : (S512x256.Idx → Elt F .bf16) → Prog (TpuEff nD τ sig (Elt F) Λ₀ .tc) α} :
    (stgP c cc0_stg2_0 X)
      ⊢ iprop((stgP c cc0_stg2_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg2_0 : Memref sig .tc .vmem S512x256 .bf16) (Rect.unit (s := S512x256) ![0, 0] S512x256.size inb).toLoadRect hl) kk) Kt) := by
  have h := wp_load (Γ := PendingWaitsCtx.empty) (Q := Kt) 𝒱₀ (c : Thread nD τ) none Set.univ (defs := defs₀ (F := F)) (m := (Memref.whole cc0_stg2_0 : Memref sig .tc .vmem S512x256 .bf16))
    (r := (Rect.unit (s := S512x256) ![0, 0] S512x256.size inb).toLoadRect) (hl := hl) (k := kk) (S := Finset.univ) (q := fullShare) (f := X) (Finset.subset_univ _)
  rw [show (Memref.whole cc0_stg2_0 : Memref sig .tc .vmem S512x256 .bf16).view.readAt (Elt F) (Rect.unit (s := S512x256) ![0, 0] S512x256.size inb).toLoadRect X = X from
    Memref.readAt_unit_zero (Elt F) cc0_stg2_0 hz2 _ X] at h
  exact h
theorem wload3 {α : Type} {Kt : α → sProp 𝕄} (c : Dev nD) (X : (cc0_stg3_0 : Ref sig .tc).ty.Contents (Elt F))
    {inb : ∀ a, (![0, 0] : Fin 2 → ℕ) a + S256x512.size a ≤ S256x512.size a}
    {hl : (Memref.whole cc0_stg3_0 : Memref sig .tc .vmem S256x512 .bf16).view.LoadsAt (Rect.unit (s := S256x512) ![0, 0] S256x512.size inb).toLoadRect}
    {kk : (S256x512.Idx → Elt F .bf16) → Prog (TpuEff nD τ sig (Elt F) Λ₀ .tc) α} :
    (stgP c cc0_stg3_0 X)
      ⊢ iprop((stgP c cc0_stg3_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg3_0 : Memref sig .tc .vmem S256x512 .bf16) (Rect.unit (s := S256x512) ![0, 0] S256x512.size inb).toLoadRect hl) kk) Kt) := by
  have h := wp_load (Γ := PendingWaitsCtx.empty) (Q := Kt) 𝒱₀ (c : Thread nD τ) none Set.univ (defs := defs₀ (F := F)) (m := (Memref.whole cc0_stg3_0 : Memref sig .tc .vmem S256x512 .bf16))
    (r := (Rect.unit (s := S256x512) ![0, 0] S256x512.size inb).toLoadRect) (hl := hl) (k := kk) (S := Finset.univ) (q := fullShare) (f := X) (Finset.subset_univ _)
  rw [show (Memref.whole cc0_stg3_0 : Memref sig .tc .vmem S256x512 .bf16).view.readAt (Elt F) (Rect.unit (s := S256x512) ![0, 0] S256x512.size inb).toLoadRect X = X from
    Memref.readAt_unit_zero (Elt F) cc0_stg3_0 hz2 _ X] at h
  exact h
theorem wload4 {α : Type} {Kt : α → sProp 𝕄} (c : Dev nD) (X : (cc0_stg4_0 : Ref sig .tc).ty.Contents (Elt F))
    {inb : ∀ a, (![0, 0] : Fin 2 → ℕ) a + S512x256.size a ≤ S512x256.size a}
    {hl : (Memref.whole cc0_stg4_0 : Memref sig .tc .vmem S512x256 .bf16).view.LoadsAt (Rect.unit (s := S512x256) ![0, 0] S512x256.size inb).toLoadRect}
    {kk : (S512x256.Idx → Elt F .bf16) → Prog (TpuEff nD τ sig (Elt F) Λ₀ .tc) α} :
    (stgP c cc0_stg4_0 X)
      ⊢ iprop((stgP c cc0_stg4_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg4_0 : Memref sig .tc .vmem S512x256 .bf16) (Rect.unit (s := S512x256) ![0, 0] S512x256.size inb).toLoadRect hl) kk) Kt) := by
  have h := wp_load (Γ := PendingWaitsCtx.empty) (Q := Kt) 𝒱₀ (c : Thread nD τ) none Set.univ (defs := defs₀ (F := F)) (m := (Memref.whole cc0_stg4_0 : Memref sig .tc .vmem S512x256 .bf16))
    (r := (Rect.unit (s := S512x256) ![0, 0] S512x256.size inb).toLoadRect) (hl := hl) (k := kk) (S := Finset.univ) (q := fullShare) (f := X) (Finset.subset_univ _)
  rw [show (Memref.whole cc0_stg4_0 : Memref sig .tc .vmem S512x256 .bf16).view.readAt (Elt F) (Rect.unit (s := S512x256) ![0, 0] S512x256.size inb).toLoadRect X = X from
    Memref.readAt_unit_zero (Elt F) cc0_stg4_0 hz2 _ X] at h
  exact h
theorem wload5 {α : Type} {Kt : α → sProp 𝕄} (c : Dev nD) (X : (cc0_stg5_0 : Ref sig .tc).ty.Contents (Elt F))
    {inb : ∀ a, (![0, 0] : Fin 2 → ℕ) a + S256x512.size a ≤ S256x512.size a}
    {hl : (Memref.whole cc0_stg5_0 : Memref sig .tc .vmem S256x512 .bf16).view.LoadsAt (Rect.unit (s := S256x512) ![0, 0] S256x512.size inb).toLoadRect}
    {kk : (S256x512.Idx → Elt F .bf16) → Prog (TpuEff nD τ sig (Elt F) Λ₀ .tc) α} :
    (stgP c cc0_stg5_0 X)
      ⊢ iprop((stgP c cc0_stg5_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg5_0 : Memref sig .tc .vmem S256x512 .bf16) (Rect.unit (s := S256x512) ![0, 0] S256x512.size inb).toLoadRect hl) kk) Kt) := by
  have h := wp_load (Γ := PendingWaitsCtx.empty) (Q := Kt) 𝒱₀ (c : Thread nD τ) none Set.univ (defs := defs₀ (F := F)) (m := (Memref.whole cc0_stg5_0 : Memref sig .tc .vmem S256x512 .bf16))
    (r := (Rect.unit (s := S256x512) ![0, 0] S256x512.size inb).toLoadRect) (hl := hl) (k := kk) (S := Finset.univ) (q := fullShare) (f := X) (Finset.subset_univ _)
  rw [show (Memref.whole cc0_stg5_0 : Memref sig .tc .vmem S256x512 .bf16).view.readAt (Elt F) (Rect.unit (s := S256x512) ![0, 0] S256x512.size inb).toLoadRect X = X from
    Memref.readAt_unit_zero (Elt F) cc0_stg5_0 hz2 _ X] at h
  exact h
theorem wload6 {α : Type} {Kt : α → sProp 𝕄} (c : Dev nD) (X : (cc0_stg6_0 : Ref sig .tc).ty.Contents (Elt F))
    {inb : ∀ a, (![0, 0] : Fin 2 → ℕ) a + S512x256.size a ≤ S512x256.size a}
    {hl : (Memref.whole cc0_stg6_0 : Memref sig .tc .vmem S512x256 .bf16).view.LoadsAt (Rect.unit (s := S512x256) ![0, 0] S512x256.size inb).toLoadRect}
    {kk : (S512x256.Idx → Elt F .bf16) → Prog (TpuEff nD τ sig (Elt F) Λ₀ .tc) α} :
    (stgP c cc0_stg6_0 X)
      ⊢ iprop((stgP c cc0_stg6_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg6_0 : Memref sig .tc .vmem S512x256 .bf16) (Rect.unit (s := S512x256) ![0, 0] S512x256.size inb).toLoadRect hl) kk) Kt) := by
  have h := wp_load (Γ := PendingWaitsCtx.empty) (Q := Kt) 𝒱₀ (c : Thread nD τ) none Set.univ (defs := defs₀ (F := F)) (m := (Memref.whole cc0_stg6_0 : Memref sig .tc .vmem S512x256 .bf16))
    (r := (Rect.unit (s := S512x256) ![0, 0] S512x256.size inb).toLoadRect) (hl := hl) (k := kk) (S := Finset.univ) (q := fullShare) (f := X) (Finset.subset_univ _)
  rw [show (Memref.whole cc0_stg6_0 : Memref sig .tc .vmem S512x256 .bf16).view.readAt (Elt F) (Rect.unit (s := S512x256) ![0, 0] S512x256.size inb).toLoadRect X = X from
    Memref.readAt_unit_zero (Elt F) cc0_stg6_0 hz2 _ X] at h
  exact h
theorem wload7 {α : Type} {Kt : α → sProp 𝕄} (c : Dev nD) (X : (cc0_stg7_0 : Ref sig .tc).ty.Contents (Elt F))
    {inb : ∀ a, (![0, 0] : Fin 2 → ℕ) a + S256x256.size a ≤ S256x256.size a}
    {hl : (Memref.whole cc0_stg7_0 : Memref sig .tc .vmem S256x256 .f32).view.LoadsAt (Rect.unit (s := S256x256) ![0, 0] S256x256.size inb).toLoadRect}
    {kk : (S256x256.Idx → Elt F .f32) → Prog (TpuEff nD τ sig (Elt F) Λ₀ .tc) α} :
    (stgP c cc0_stg7_0 X)
      ⊢ iprop((stgP c cc0_stg7_0 X -∗ wp frame (wpE (defs₀ (F := F)) 𝒱₀ (c : Thread nD τ) none) Set.univ (kk X) Kt)
          -∗ wp frame (wpE (defs₀ (F := F)) 𝒱₀ (c : Thread nD τ) none) Set.univ
            (.op (.load (Memref.whole cc0_stg7_0 : Memref sig .tc .vmem S256x256 .f32) (Rect.unit (s := S256x256) ![0, 0] S256x256.size inb).toLoadRect hl) kk) Kt) := by
  have h := wp_load (Γ := PendingWaitsCtx.empty) (Q := Kt) 𝒱₀ (c : Thread nD τ) none Set.univ (defs := defs₀ (F := F)) (m := (Memref.whole cc0_stg7_0 : Memref sig .tc .vmem S256x256 .f32))
    (r := (Rect.unit (s := S256x256) ![0, 0] S256x256.size inb).toLoadRect) (hl := hl) (k := kk) (S := Finset.univ) (q := fullShare) (f := X) (Finset.subset_univ _)
  rw [show (Memref.whole cc0_stg7_0 : Memref sig .tc .vmem S256x256 .f32).view.readAt (Elt F) (Rect.unit (s := S256x256) ![0, 0] S256x256.size inb).toLoadRect X = X from
    Memref.readAt_unit_zero (Elt F) cc0_stg7_0 hz2 _ X] at h
  exact h

theorem wstore7 {α : Type} {Kt : α → sProp 𝕄} (c : Dev nD) (X Y : (cc0_stg7_0 : Ref sig .tc).ty.Contents (Elt F))
    {inb : ∀ a, (![0, 0] : Fin 2 → ℕ) a + S256x256.size a ≤ S256x256.size a}
    {hx : ((Memref.whole cc0_stg7_0 : Memref sig .tc .vmem S256x256 .f32).access (Rect.unit (s := S256x256) ![0, 0] S256x256.size inb)).Stores Finset.univ}
    {hm : (Finset.univ : Finset (Rect.unit (s := S256x256) ![0, 0] S256x256.size inb).shape.Idx) = Finset.univ ∨ ∀ a, (Rect.unit (s := S256x256) ![0, 0] S256x256.size inb).stride a = 1}
    {kk : PUnit → Prog (TpuEff nD τ sig (Elt F) Λ₀ .tc) α} :
    (stgP c cc0_stg7_0 X)
      ⊢ iprop((stgP c cc0_stg7_0 Y -∗ wp frame (wpE (defs₀ (F := F)) 𝒱₀ (c : Thread nD τ) none) Set.univ (kk ⟨⟩) Kt)
          -∗ wp frame (wpE (defs₀ (F := F)) 𝒱₀ (c : Thread nD τ) none) Set.univ
            (.op (.store (Memref.whole cc0_stg7_0 : Memref sig .tc .vmem S256x256 .f32) (Rect.unit (s := S256x256) ![0, 0] S256x256.size inb) Y Finset.univ hx hm) kk) Kt) := by
  have h := wp_store (Γ := PendingWaitsCtx.empty) (Q := Kt) 𝒱₀ (c : Thread nD τ) none Set.univ (defs := defs₀ (F := F)) (m := (Memref.whole cc0_stg7_0 : Memref sig .tc .vmem S256x256 .f32))
    (r := Rect.unit (s := S256x256) ![0, 0] S256x256.size inb)
    (Mk := Finset.univ) (w := Y) (hx := hx) (hm := hm) (k := kk) (S := Finset.univ) (f := X) (Finset.subset_univ _)
  rw [show ((Memref.whole cc0_stg7_0 : Memref sig .tc .vmem S256x256 .f32).access (Rect.unit (s := S256x256) ![0, 0] S256x256.size inb)).write (Elt F) X Y Finset.univ = Y from
    Memref.write_access_unit_zero_univ (Elt F) cc0_stg7_0 hz2 _ X Y] at h
  exact h

end Cert.AllGather

end
-- ==== Proof.Done.lean ====
/-
A layer's exchange complete, and the values the program forms from what arrived.
-/
module

public import proofs.«01_k».proof.Proof.Phases

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

/-! ## The values, as the program forms them -/

theorem pay2_eq (c : Dev nD) : k0_pay2 (stg0 m c) (stg1 m c) (stg2 m c) = pk m 0 c := rfl
theorem pay5_eq (c : Dev nD) : k0_pay5 (k0_pay4 (pk m 0 c) (up (bk m 0 (mi c 0))) (up (bk m 0 (mi c 1))) (up (bk m 0 (mi c 2))) (up (bk m 0 (mi c 3)))) (up (bk m 0 (mi c 4))) (up (bk m 0 (mi c 5))) (up (bk m 0 (mi c 6))) (stg3 m c) (stg4 m c) = pk m 1 c := by
  unfold k0_pay5 k0_pay4; simp only [down_up]; rfl
theorem pay6_eq (c : Dev nD) : k0_pay6 (k0_pay4 (pk m 0 c) (up (bk m 0 (mi c 0))) (up (bk m 0 (mi c 1))) (up (bk m 0 (mi c 2))) (up (bk m 0 (mi c 3)))) (up (bk m 0 (mi c 4))) (up (bk m 0 (mi c 5))) (up (bk m 0 (mi c 6))) (stg3 m c) (stg4 m c)
    = shapeCast S1x256x256 (bk m 1 c) shapeCasts_S256x256_S1x256x256 := by
  unfold k0_pay6; rw [pay5_eq]; rfl
theorem pay9_eq (c : Dev nD) : k0_pay9 (k0_pay7 (pk m 1 c) (up (bk m 1 (mi c 0)))) (k0_pay8 (up (bk m 1 (mi c 1)))) (up (bk m 1 (mi c 2))) (up (bk m 1 (mi c 3))) (up (bk m 1 (mi c 4))) (up (bk m 1 (mi c 5))) (up (bk m 1 (mi c 6))) (stg5 m c) (stg6 m c) = pk m 2 c := by
  unfold k0_pay9 k0_pay7 k0_pay8; simp only [down_up]; rfl
theorem pay10_eq (c : Dev nD) : k0_pay10 (k0_pay7 (pk m 1 c) (up (bk m 1 (mi c 0)))) (k0_pay8 (up (bk m 1 (mi c 1)))) (up (bk m 1 (mi c 2))) (up (bk m 1 (mi c 3))) (up (bk m 1 (mi c 4))) (up (bk m 1 (mi c 5))) (up (bk m 1 (mi c 6))) (stg5 m c) (stg6 m c) = bk m 2 c := by
  unfold k0_pay10; rw [pay9_eq]; rfl
theorem pay1_eq (c : Dev nD) : k0_pay1 (k0_pay12 (pk m 2 c) (up (bk m 2 (mi c 0))) (up (bk m 2 (mi c 1))) (up (bk m 2 (mi c 2))) (up (bk m 2 (mi c 3))) (up (bk m 2 (mi c 4))) (up (bk m 2 (mi c 5)))) (k0_pay13 (up (bk m 2 (mi c 6)))) = outAt m c := by
  unfold k0_pay1 k0_pay12 k0_pay13; simp only [down_up]; rfl

/-! ## From a stored partial sum to its transfers -/

/-- What layer `k`'s transfers numbered in `l` need besides the partial sum. -/
def preRes (c : Dev nD) (k : Fin 3) : List (Fin 7) → sProp 𝕄
  | [] => iprop(emp)
  | j :: l => iprop(((∃ f, gPts (pl c j) k j f)
    ∗ dutyTok ER (cell c (cSend k)) 0 j ∗ dutyTok ER (cell (pl c j) (cRecv k)) 0 j) ∗ preRes c k l)

theorem shares (c : Dev nD) (k : Fin 3) :
    pPts c k fullShare (pCan m k c) ⊢ iprop(pPts c k (shareDrop fullShare 7) (pCan m k c)
      ∗ bigSep Finset.univ fun i : Fin 7 => pPts c k (shareTok fullShare 7 i) (pCan m k c)) := by
  unfold pPts
  exact pointsTo_toks_split fullShare 7

theorem shares_back (c : Dev nD) (k : Fin 3) :
    iprop(pPts c k (shareDrop fullShare 7) (pCan m k c) ∗ bigSep Finset.univ fun i : Fin 7 => pay m c (cSend k) i)
      ⊢ pPts c k fullShare (pCan m k c) := by
  show iprop(pPts c k (shareDrop fullShare 7) (pCan m k c) ∗ bigSep Finset.univ fun i : Fin 7 => pPts c k (shareTok fullShare 7 i) (pCan m k c)) ⊢ _
  unfold pPts
  exact pointsTo_toks_join fullShare 7

theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL all7 (by decide) (by decide)]
  simp only [bigSepL_cons_cons, bigSepL_singleton]; rfl

theorem to_sends (c : Dev nD) (k : Fin 3) :
    iprop(owesE c (layerItems k all7 ++ rest k) ∗ pPts c k fullShare (pCan m k c) ∗ preRes c k all7)
      ⊢ iprop(sendSt m c k all7 0 ∗ pPts c k (shareDrop fullShare 7) (pCan m k c)) := by
  refine (sep_mono_right (sep_mono_left (shares m c k))).trans ?_
  rw [seven]
  unfold sendSt
  simp only [preRes, resL, sendRes, creds]
  iintro ⟨HO, ⟨Hd, H0, H1, H2, H3, H4, H5, H6⟩, ⟨G0, T0⟩, ⟨G1, T1⟩, ⟨G2, T2⟩, ⟨G3, T3⟩, ⟨G4, T4⟩, ⟨G5, T5⟩, ⟨G6, T6⟩, -⟩
  isplitr [Hd]
  · isplitl [HO]; · iexact HO
    isplitl
    · isplitl [H0 G0 T0]; · (isplitl [H0]; · iexact H0); (isplitl [G0]; · iexact G0); iexact T0
      isplitl [H1 G1 T1]; · (isplitl [H1]; · iexact H1); (isplitl [G1]; · iexact G1); iexact T1
      isplitl [H2 G2 T2]; · (isplitl [H2]; · iexact H2); (isplitl [G2]; · iexact G2); iexact T2
      isplitl [H3 G3 T3]; · (isplitl [H3]; · iexact H3); (isplitl [G3]; · iexact G3); iexact T3
      isplitl [H4 G4 T4]; · (isplitl [H4]; · iexact H4); (isplitl [G4]; · iexact G4); iexact T4
      isplitl [H5 G5 T5]; · (isplitl [H5]; · iexact H5); (isplitl [G5]; · iexact G5); iexact T5
      isplitl [H6 G6 T6]; · (isplitl [H6]; · iexact H6); (isplitl [G6]; · iexact G6); iexact T6
      iempintro
    iempintro
  iexact Hd
/-! ## A layer's exchange complete -/

/-- Layer `k`'s cells past their round, the shares of the partial-sum slot back, the seven slots filled. -/
def doneSt (c : Dev nD) (k : Fin 3) : sProp 𝕄 :=
  iprop((atPos ER (cell c (cSend k)) 1 ∅ 0 ∗ (bigSep Finset.univ fun i => pay m c (cSend k) i) ∗ atPos ER (cell c (cRecv k)) 1 ∅ 0) ∗ gAll m c k)

theorem to_done (c : Dev nD) (k : Fin 3) : waitSt m c k 0 0 ⊢ iprop(owesE c (rest k) ∗ doneSt m c k) := by
  unfold waitSt doneSt
  rw [show wRem m c (cSend k) 0 = iprop(atPos ER (cell c (cSend k)) 1 ∅ 0 ∗ bigSep Finset.univ fun i => pay m c (cSend k) i) from rfl,
    show wRem m c (cRecv k) 0 = iprop(atPos ER (cell c (cRecv k)) 1 ∅ 0 ∗ gAll m c k) from rfl]
  iintro ⟨HO, ⟨Ha, Hs⟩, Hb, Hg⟩
  isplitl [HO]; · iexact HO
  isplitr [Hg]
  · isplitl [Ha]; · iexact Ha
    isplitl [Hs]; · iexact Hs
    iexact Hb
  iexact Hg

theorem gload_dn {α : Type} {Kt : α → sProp 𝕄} (c : Dev nD) (k : Fin 3) (j : Fin 7) {hl : gathB.view.LoadsAt (rG k j).toLoadRect}
    {kk : ((rG k j).toLoadRect.shape.Idx → Elt F .bf16) → Prog (TpuEff nD τ sig (Elt F) Λ₀ .tc) α} :
    (doneSt m c k)
      ⊢ iprop((doneSt m c k -∗ wp frame (wpE (defs₀ (F := F)) 𝒱₀ (c : Thread nD τ) none) Set.univ (kk (up (bk m k (mi c j)))) Kt)
          -∗ wp frame (wpE (defs₀ (F := F)) 𝒱₀ (c : Thread nD τ) none) Set.univ (.op (.load gathB (rG k j).toLoadRect hl) kk) Kt) := by
  unfold doneSt
  iintro ⟨H, Hg⟩ Hk
  iapply (gload_st m c k j) $$ Hg
  iintro Hg
  iapply Hk
  isplitl [H]; · iexact H
  iexact Hg

end Cert.AllGather

end
-- ==== Proof.Slots.lean ====
/-
The scratch buffers cut into the slots the protocol hands around, and put together again; what a device starts from laid
out as its program takes it up, and what is left at the end gathered.
-/
module

public import proofs.«01_k».proof.Proof.Done
public import Idealize.ShloMosaic.Lib.Ring

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

/-! ## The two scratch buffers, cut into their slots and put together again -/

omit [FloatOps F] in
theorem set_part (k : Fin 3) : (partM k).view.set = (rP k).set :=
  (View.set_reshape _ _).trans (View.set_slice_whole cc0_scratch0 (rP k))
omit [FloatOps F] in
theorem set_gath (k : Fin 3) (j : Fin 7) : (gathM k j).view.set = (rG k j).set :=
  (View.set_reshape _ _).trans (View.set_slice_whole cc0_scratch1 (rG k j))

theorem part_disjoint (k k' : Fin 3) (h : k ≠ k') : Disjoint (rP k).set (rP k').set := by
  refine Rect.unit_disjoint (0 : Fin 3) ?_
  have : k.val ≠ k'.val := fun e => h (Fin.ext e)
  show k.val + 1 ≤ k'.val ∨ k'.val + 1 ≤ k.val
  omega
theorem part_cover : (Finset.univ : Finset (Fin 3)).biUnion (fun k => (rP k).set) = Finset.univ := by
  ext i
  simp only [Finset.mem_biUnion, Finset.mem_univ, true_and, iff_true]
  refine ⟨⟨(i (0 : Fin 3)).val, (i (0 : Fin 3)).isLt⟩, (Rect.mem_set_unit).mpr fun a => ?_⟩
  have h1 := (i (1 : Fin 3)).isLt
  have h2 := (i (2 : Fin 3)).isLt
  fin_cases a
  · exact ⟨le_refl _, Nat.lt_succ_self _⟩
  · exact ⟨Nat.zero_le _, by simpa using h1⟩
  · exact ⟨Nat.zero_le _, by simpa using h2⟩

theorem gath_disjoint (p p' : Fin 3 × Fin 7) (h : p ≠ p') : Disjoint (rG p.1 p.2).set (rG p'.1 p'.2).set := by
  by_cases hk : p.1 = p'.1
  · have hj : p.2.val ≠ p'.2.val := fun e => h (Prod.ext hk (Fin.ext e))
    refine Rect.unit_disjoint (1 : Fin 4) ?_
    show p.2.val + 1 ≤ p'.2.val ∨ p'.2.val + 1 ≤ p.2.val
    omega
  · have hk' : p.1.val ≠ p'.1.val := fun e => hk (Fin.ext e)
    refine Rect.unit_disjoint (0 : Fin 4) ?_
    show p.1.val + 1 ≤ p'.1.val ∨ p'.1.val + 1 ≤ p.1.val
    omega
theorem gath_cover : (Finset.univ : Finset (Fin 3 × Fin 7)).biUnion (fun p => (rG p.1 p.2).set) = Finset.univ := by
  ext i
  simp only [Finset.mem_biUnion, Finset.mem_univ, true_and, iff_true]
  refine ⟨(⟨(i (0 : Fin 4)).val, (i (0 : Fin 4)).isLt⟩, ⟨(i (1 : Fin 4)).val, (i (1 : Fin 4)).isLt⟩), (Rect.mem_set_unit).mpr fun a => ?_⟩
  have h2 := (i (2 : Fin 4)).isLt
  have h3 := (i (3 : Fin 4)).isLt
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

/-- The whole partial-sum buffer, at some contents; the whole gather buffer, at some contents. -/
def partW (c : Dev nD) : sProp 𝕄 := iprop(∃ f : Buf (Elt F) ((c : Thread nD τ).loc cc0_scratch0), ((c : Thread nD τ).loc cc0_scratch0) ↦{fullShare} f)
def gathW (c : Dev nD) : sProp 𝕄 := iprop(∃ f : Buf (Elt F) ((c : Thread nD τ).loc cc0_scratch1), ((c : Thread nD τ).loc cc0_scratch1) ↦{fullShare} f)

theorem part_each (c : Dev nD) (f : Buf (Elt F) ((c : Thread nD τ).loc cc0_scratch0)) :
    ((((c : Thread nD τ).loc cc0_scratch0) ↦{fullShare} f : sProp 𝕄)) = bigSep Finset.univ fun k : Fin 3 => pPts c k fullShare f := by
  rw [Ring.pointsTo_blocks (fun k : Fin 3 => (rP k).set) part_disjoint part_cover f]
  exact bigSep_congr fun k _ => by unfold pPts; rw [set_part]
theorem gath_each (c : Dev nD) (f : Buf (Elt F) ((c : Thread nD τ).loc cc0_scratch1)) :
    ((((c : Thread nD τ).loc cc0_scratch1) ↦{fullShare} f : sProp 𝕄)) = bigSep Finset.univ fun p : Fin 3 × Fin 7 => gPts c p.1 p.2 f := by
  rw [Ring.pointsTo_blocks (fun p : Fin 3 × Fin 7 => (rG p.1 p.2).set) gath_disjoint gath_cover f]
  exact bigSep_congr fun p _ => by unfold gPts; rw [set_gath]

theorem some_part (c : Dev nD) (k : Fin 3) (f : Buf (Elt F) ((partM k).view.loc (c : Thread nD τ))) :
    pPts c k fullShare f ⊢ iprop(∃ f, pPts (F := F) c k fullShare f) := by
  iintro H; iexists f; iexact H
theorem some_gath (c : Dev nD) (k : Fin 3) (j : Fin 7) (f : Buf (Elt F) ((gathM k j).view.loc (c : Thread nD τ))) :
    gPts c k j f ⊢ iprop(∃ f, gPts (F := F) c k j f) := by
  iintro H; iexists f; iexact H

theorem part_split (c : Dev nD) : partW (F := F) c ⊢ bigSep Finset.univ fun k : Fin 3 => iprop(∃ f, pPts c k fullShare f) := by
  have h (f : Buf (Elt F) ((c : Thread nD τ).loc cc0_scratch0)) :
      (((c : Thread nD τ).loc cc0_scratch0) ↦{fullShare} f : sProp 𝕄) ⊢ bigSep Finset.univ fun k : Fin 3 => iprop(∃ f, pPts c k fullShare f) := by
    rw [part_each c f]
    exact bigSep_mono fun k _ => some_part c k f
  unfold partW
  iintro ⟨%f, H⟩
  iapply (h f); iexact H
theorem gath_split (c : Dev nD) : gathW (F := F) c ⊢ bigSep Finset.univ fun j : Fin 7 => slots c j := by
  have h (f : Buf (Elt F) ((c : Thread nD τ).loc cc0_scratch1)) :
      (((c : Thread nD τ).loc cc0_scratch1) ↦{fullShare} f : sProp 𝕄) ⊢ bigSep Finset.univ fun j : Fin 7 => slots c j := by
    unfold slots
    rw [gath_each c f, bigSep_univ_prod, bigSep_univ_comm]
    exact bigSep_mono fun j _ => bigSep_mono fun k _ => some_gath c k j f
  unfold gathW
  iintro ⟨%f, H⟩
  iapply (h f); iexact H

include m in
theorem part_join (c : Dev nD) : (bigSep Finset.univ fun k : Fin 3 => iprop(∃ f, pPts (F := F) c k fullShare f)) ⊢ partW c := by
  unfold partW
  refine BIBase.Entails.trans (Entails.of_eq (bigSep_congr (Ψ := fun k : Fin 3 => iprop(∃ f, ((c : Thread nD τ).loc cc0_scratch0) ↦[(rP k).set]{fullShare} f)) fun k _ => ?_)) (Ring.pointsTo_blocks_join_exists (fun k : Fin 3 => (rP k).set) part_disjoint part_cover
    (ℓ := (c : Thread nD τ).loc cc0_scratch0) (q := fullShare) (m ((c : Thread nD τ).loc cc0_scratch0)))
  unfold pPts; rw [set_part]
theorem gath_join (c : Dev nD) : (bigSep Finset.univ fun k : Fin 3 => gAll m c k) ⊢ gathW c := by
  unfold gathW gAll
  rw [← bigSep_univ_prod (fun p : Fin 3 × Fin 7 => gPts c p.1 p.2 (gCan m p.1 p.2 c))]
  refine BIBase.Entails.trans (bigSep_mono fun p _ => ?_) (Ring.pointsTo_blocks_join_exists (fun p : Fin 3 × Fin 7 => (rG p.1 p.2).set) gath_disjoint gath_cover
    (ℓ := (c : Thread nD τ).loc cc0_scratch1) (q := fullShare) (m ((c : Thread nD τ).loc cc0_scratch1)))
  refine BIBase.Entails.trans (some_gath c p.1 p.2 (gCan m p.1 p.2 c)) (Entails.of_eq ?_)
  unfold gPts; rw [set_gath]

/-! ## Families written out -/

omit [FloatOps F] in
theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]; rfl
omit [FloatOps F] in
theorem cells7 (Φ : Cx → sProp 𝕄) : bigSep Finset.univ Φ
    = iprop(Φ cBar ∗ Φ (cSend 0) ∗ Φ (cSend 1) ∗ Φ (cSend 2) ∗ Φ (cRecv 0) ∗ Φ (cRecv 1) ∗ Φ (cRecv 2)) := by
  rw [bigSep_univ_eq_bigSepL [cBar, cSend 0, cSend 1, cSend 2, cRecv 0, cRecv 1, cRecv 2] (by decide) (by decide)]
  simp only [bigSepL_cons_cons, bigSepL_singleton]; rfl

theorem sigRes_intro (c : Dev nD) :
    (bigSep Finset.univ fun j : Fin 7 => iprop(dutyTok ER (cell (pl c j) cBar) 0 j.rev ∗ slots c j.rev)) ⊢ sigRes (F := F) c all7 := by
  rw [seven]
  simp only [sigRes]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iempintro
theorem preRes_intro (c : Dev nD) (k : Fin 3) :
    (bigSep Finset.univ fun j : Fin 7 => iprop((∃ f, gPts (pl c j) k j f)
      ∗ dutyTok ER (cell c (cSend k)) 0 j ∗ dutyTok ER (cell (pl c j) (cRecv k)) 0 j)) ⊢ preRes (F := F) c k all7 := by
  rw [seven]
  simp only [preRes]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iempintro

theorem creds_intro (g : GSem nD τ sig) : ∀ n : ℕ, (cred (tallyAt g () (n * N)) : sProp 𝕄) ⊢ creds g n
  | 0 => by unfold creds; iintro -; iempintro
  | n + 1 => by
      rw [show (tallyAt g () ((n + 1) * N) : CellTallies nD τ sig Unit) = tallyAt g () N + tallyAt g () (n * N) from by
        rw [tallyAt_add, Nat.succ_mul, Nat.add_comm]]
      rw [show creds (F := F) g (n + 1) = iprop(cred (tallyAt g () N) ∗ creds g n) from rfl]
      exact (cred_add _ _).1.trans (sep_mono_right (creds_intro g n))

/-- Layer `k`'s receive cell as the launch leaves it, its seven waits to come. -/
theorem wRem_intro (c : Dev nD) (k : Fin 3) :
    iprop(cred (tallyAt (cell c (cRecv k)) () (7 * N)) ∗ atPos ER (cell c (cRecv k)) 0 ∅ 0) ⊢ wRem m c (cRecv k) 7 := by
  show _ ⊢ iprop(creds (F := F) (cell c (cRecv k)) 7 ∗ waiting m c (cRecv k) 0)
  exact BI.sep_mono (creds_intro _ 7) (waiting_zero m c (cRecv k))

/-! ## What a device starts from, and what its program uses -/

/-- The duties device `c` pays: its seven signals; layer `k`'s seven transfers. -/
def barToks (c : Dev nD) : sProp 𝕄 := bigSep Finset.univ fun j : Fin 7 => dutyTok ER (cell (pl c j) cBar) 0 j.rev
def layToks (c : Dev nD) (k : Fin 3) : sProp 𝕄 :=
  bigSep Finset.univ fun j : Fin 7 => iprop(dutyTok ER (cell c (cSend k)) 0 j ∗ dutyTok ER (cell (pl c j) (cRecv k)) 0 j)

/-- Every cell's first round open, and the duties `c` pays. -/
def linear (c : Dev nD) : sProp 𝕄 :=
  iprop((bigSep Finset.univ fun x : Cx => atPos ER (cell c x) 0 ∅ 0) ∗ barToks c ∗ bigSep Finset.univ fun k : Fin 3 => layToks c k)
/-- The credit for what the others send. -/
def credit (c : Dev nD) : sProp 𝕄 :=
  iprop(cred (tallyAt (cell c cBar) () 7) ∗ bigSep Finset.univ fun k : Fin 3 => cred (tallyAt (cell c (cRecv k)) () (7 * N)))
def scratch (c : Dev nD) : sProp 𝕄 := iprop(partW c ∗ gathW c)

theorem signals_ready (c : Dev nD) : iprop(barToks c ∗ gathW c) ⊢ sigRes (F := F) c all7 := by
  refine (sep_mono_right (gath_split c)).trans ?_
  rw [bigSep_univ_equiv Fin.revPerm (fun j : Fin 7 => slots (F := F) c j)]
  unfold barToks
  rw [← bigSep_sep']
  exact sigRes_intro c

/-- Everything laid out as the program takes it up. -/
def ready (c : Dev nD) : sProp 𝕄 :=
  iprop(sigRes c all7 ∗ cred (tallyAt (cell c cBar) () 7) ∗ atPos ER (cell c cBar) 0 ∅ 0
    ∗ ((∃ f, pPts c 0 fullShare f) ∗ (∃ f, pPts c 1 fullShare f) ∗ (∃ f, pPts c 2 fullShare f))
    ∗ (atPos ER (cell c (cSend 0)) 0 ∅ 0 ∗ wRem m c (cRecv 0) 7)
    ∗ (atPos ER (cell c (cSend 1)) 0 ∅ 0 ∗ wRem m c (cRecv 1) 7)
    ∗ (atPos ER (cell c (cSend 2)) 0 ∅ 0 ∗ wRem m c (cRecv 2) 7)
    ∗ bigSep Finset.univ fun k : Fin 3 => layToks c k)

theorem get_ready (c : Dev nD) : iprop(linear c ∗ credit c ∗ scratch c) ⊢ ready m c := by
  unfold linear credit scratch ready
  rw [cells7, three (fun k : Fin 3 => (cred (tallyAt (cell c (cRecv k)) () (7 * N)) : sProp 𝕄)),
    ← three (fun k : Fin 3 => iprop(∃ f, pPts (F := F) c k fullShare f))]
  iintro ⟨⟨⟨B, S0, S1, S2, R0, R1, R2⟩, HB, HL⟩, ⟨CB, C0, C1, C2⟩, HP, HG⟩
  isplitl [HB HG]
  · iapply (signals_ready c); isplitl [HB]; · iexact HB
    iexact HG
  isplitl [CB]; · iexact CB
  isplitl [B]; · iexact B
  isplitl [HP]; · iapply (part_split c); iexact HP
  isplitl [S0 C0 R0]
  · isplitl [S0]; · iexact S0
    iapply (wRem_intro m c 0); isplitl [C0]; · iexact C0
    iexact R0
  isplitl [S1 C1 R1]
  · isplitl [S1]; · iexact S1
    iapply (wRem_intro m c 1); isplitl [C1]; · iexact C1
    iexact R1
  isplitl [S2 C2 R2]
  · isplitl [S2]; · iexact S2
    iapply (wRem_intro m c 2); isplitl [C2]; · iexact C2
    iexact R2
  iexact HL

/-- After the barrier: the slots of the others that `c` writes, with the duties of writing them, layer by layer. -/
theorem after_bar (c : Dev nD) :
    iprop((bigSep Finset.univ fun i => barPay c i) ∗ bigSep Finset.univ fun k : Fin 3 => layToks (F := F) c k)
      ⊢ iprop(preRes c 0 all7 ∗ preRes c 1 all7 ∗ preRes c 2 all7) := by
  unfold barPay layToks
  rw [bigSep_univ_comm, ← bigSep_sep', ← three (fun k : Fin 3 => preRes (F := F) c k all7)]
  refine bigSep_mono fun k _ => ?_
  rw [← bigSep_sep']
  exact preRes_intro c k

/-- A layer's exchange complete, the partial-sum slot whole again, its two cells past their round. -/
def layDone (c : Dev nD) (k : Fin 3) : sProp 𝕄 :=
  iprop((∃ f, pPts c k fullShare f) ∗ gAll m c k ∗ atPos ER (cell c (cSend k)) 1 ∅ 0 ∗ atPos ER (cell c (cRecv k)) 1 ∅ 0)

theorem lay_done (c : Dev nD) (k : Fin 3) : iprop(pPts c k (shareDrop fullShare 7) (pCan m k c) ∗ doneSt m c k) ⊢ layDone m c k := by
  unfold doneSt layDone
  iintro ⟨HP, ⟨HS, Hp, HR⟩, HG⟩
  isplitl [HP Hp]
  · iexists (pCan m k c)
    iapply (shares_back m c k); isplitl [HP]; · iexact HP
    iexact Hp
  isplitl [HG]; · iexact HG
  isplitl [HS]; · iexact HS
  iexact HR

theorem close_cell (c : Dev nD) (x : Cx) : iprop(facts m K ∗ atPos ER (cell c x) 1 ∅ 0) ⊢ |={Set.univ}=> semVal (cell c x) 0 :=
  (sep_mono_left (facts_inv m K c x)).trans
    (Rounds.cell_close ER (gRd m) (Set.mem_univ (K (c, x))) (fun h => h) (R := 1) (duties_later m (cell c x)))

/-- The program over: both buffers whole, the seven cells closed at zero. -/
def over (c : Dev nD) : sProp 𝕄 := iprop((partW c ∗ gathW c) ∗ bigSep Finset.univ fun x : Cx => semVal (cell c x) 0)

theorem get_over (c : Dev nD) :
    iprop(facts m K ∗ atPos ER (cell c cBar) 1 ∅ 0 ∗ layDone m c 0 ∗ layDone m c 1 ∗ layDone m c 2) ⊢ |={Set.univ}=> over (F := F) c := by
  unfold layDone over
  rw [cells7]
  iintro ⟨#Hf, B, ⟨P0, G0, S0, R0⟩, ⟨P1, G1, S1, R1⟩, P2, G2, S2, R2⟩
  imod (close_cell m K c cBar) $$ [B] with B
  · isplitr; · iexact Hf
    iexact B
  imod (close_cell m K c (cSend 0)) $$ [S0] with S0
  · isplitr; · iexact Hf
    iexact S0
  imod (close_cell m K c (cSend 1)) $$ [S1] with S1
  · isplitr; · iexact Hf
    iexact S1
  imod (close_cell m K c (cSend 2)) $$ [S2] with S2
  · isplitr; · iexact Hf
    iexact S2
  imod (close_cell m K c (cRecv 0)) $$ [R0] with R0
  · isplitr; · iexact Hf
    iexact R0
  imod (close_cell m K c (cRecv 1)) $$ [R1] with R1
  · isplitr; · iexact Hf
    iexact R1
  imod (close_cell m K c (cRecv 2)) $$ [R2] with R2
  · isplitr; · iexact Hf
    iexact R2
  imodintro
  isplitl [P0 G0 P1 G1 P2 G2]
  · isplitl [P0 P1 P2]
    · iapply ((Entails.of_eq (three (fun k : Fin 3 => iprop(∃ f, pPts (F := F) c k fullShare f))).symm).trans (part_join m c))
      isplitl [P0]; · iexact P0
      isplitl [P1]; · iexact P1
      iexact P2
    iapply ((Entails.of_eq (three (fun k : Fin 3 => gAll m c k)).symm).trans (gath_join m c))
    isplitl [G0]; · iexact G0
    isplitl [G1]; · iexact G1
    iexact G2
  isplitl [B]; · iexact B
  isplitl [S0]; · iexact S0
  isplitl [S1]; · iexact S1
  isplitl [S2]; · iexact S2
  isplitl [R0]; · iexact R0
  isplitl [R1]; · iexact R1
  iexact R2

end Cert.AllGather

end
-- ==== Proof.PartsA.lean ====
/-
The program's first pieces: the signals, the barrier, the first layer's products and exchange.
-/
module

public import proofs.«01_k».proof.Proof.Done

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

theorem part1_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD)  {Kt : (Σ' (d0 : Dev nD) (v2 : BitVec 32) (v3 : Sems sig S_) (v30 : BitVec 32) (c8_i32_18 : BitVec 32), BitVec 1) → sProp 𝕄} :
    iprop(facts m K ∗ sigSt c [0, 1, 2, 3, 4, 5, 6])
      ⊢ iprop((∀ v2 : BitVec 32, ∀ v30 : BitVec 32, ∀ c8_i32_18 : BitVec 32, ∀ z : BitVec 1, iprop(sigSt c [2, 3, 4, 5, 6]) -∗ Kt ⟨c, v2, SemArray.scalar (sig.barrier 0 rfl), v30, c8_i32_18, z⟩)
        -∗ wp frame (wpE (defs₀ (F := F)) 𝒱₀ (c : Thread nD τ) none) Set.univ
          (k0_part1 (F := F) a0 h0 a1 h1 a2 h2 a3 h3 a4 h4 a5 h5 a6 h6 a7 h7 partB h8 gathB h9 cc0_scratch2 cc0_scratch3 ) Kt) := by
  rw [k0_part1_eq_skeleton]; unfold k0_part1_skel
  simp only [semSignalWord, semWaitWord, Prog.lift, Prog.bind_op, Prog.bind_ret, Prog.pure_eq_ret, wp_deviceId]
  iintro ⟨#Hf, Hs⟩ Hk
  iapply (sig_st m K c _ 0 (dev1_eq c) [1, 2, 3, 4, 5, 6] rfl) $$ [Hs]
  · isplitr; · iexact Hf
    iexact Hs
  iintro Hs
  iapply (sig_st m K c _ 1 (dev2_eq c) [2, 3, 4, 5, 6] rfl) $$ [Hs]
  · isplitr; · iexact Hf
    iexact Hs
  iintro Hs
  rw [wp_ret]; imodintro
  iapply Hk
  iexact Hs

theorem part2_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v30 : BitVec 32) (c8_i32_18 : BitVec 32) (v31 : BitVec 1) {Kt : (Σ' (v59 : BitVec 32) (v64 : BitVec 1), BitVec 32) → sProp 𝕄} :
    iprop(facts m K ∗ sigSt c [2, 3, 4, 5, 6])
      ⊢ iprop((∀ v59 : BitVec 32, ∀ v64 : BitVec 1, ∀ z : BitVec 32, iprop(sigSt c [4, 5, 6]) -∗ Kt ⟨v59, v64, z⟩)
        -∗ wp frame (wpE (defs₀ (F := F)) 𝒱₀ (c : Thread nD τ) none) Set.univ
          (k0_part2 (F := F) a0 h0 a1 h1 a2 h2 a3 h3 a4 h4 a5 h5 a6 h6 a7 h7 partB h8 gathB h9 cc0_scratch2 cc0_scratch3 c v2 (SemArray.scalar (sig.barrier 0 rfl)) v30 c8_i32_18 v31) Kt) := by
  rw [k0_part2_eq_skeleton]; unfold k0_part2_skel
  simp only [semSignalWord, semWaitWord, Prog.lift, Prog.bind_op, Prog.bind_ret, Prog.pure_eq_ret, wp_deviceId]
  iintro ⟨#Hf, Hs⟩ Hk
  iapply (sig_st m K c _ 2 (dev3_eq c) [3, 4, 5, 6] rfl) $$ [Hs]
  · isplitr; · iexact Hf
    iexact Hs
  iintro Hs
  iapply (sig_st m K c _ 3 (dev4_eq c) [4, 5, 6] rfl) $$ [Hs]
  · isplitr; · iexact Hf
    iexact Hs
  iintro Hs
  rw [wp_ret]; imodintro
  iapply Hk
  iexact Hs

theorem part3_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v59 : BitVec 32) (v64 : BitVec 1) (v65 : BitVec 32) {Kt : PUnit → sProp 𝕄} :
    iprop(facts m K ∗ sigSt c [4, 5, 6] ∗ cred (tallyAt (cell c cBar) () 7) ∗ atPos ER (cell c cBar) 0 ∅ 0)
      ⊢ iprop((iprop((owesE c comm ∗ atPos ER (cell c cBar) 1 ∅ 0 ∗ bigSep Finset.univ fun i => barPay c i)) -∗ Kt ⟨⟩)
        -∗ wp frame (wpE (defs₀ (F := F)) 𝒱₀ (c : Thread nD τ) none) Set.univ
          (k0_part3 (F := F) a0 h0 a1 h1 a2 h2 a3 h3 a4 h4 a5 h5 a6 h6 a7 h7 partB h8 gathB h9 cc0_scratch2 cc0_scratch3 c v2 (SemArray.scalar (sig.barrier 0 rfl)) v59 v64 v65) Kt) := by
  rw [k0_part3_eq_skeleton]; unfold k0_part3_skel
  simp only [semSignalWord, semWaitWord, Prog.lift, Prog.bind_op, Prog.bind_ret, Prog.pure_eq_ret, wp_deviceId]
  iintro ⟨#Hf, Hs, Hc, Ha⟩ Hk
  iapply (sig_st m K c _ 4 (dev5_eq c) [5, 6] rfl) $$ [Hs]
  · isplitr; · iexact Hf
    iexact Hs
  iintro Hs
  iapply (sig_st m K c _ 5 (dev6_eq c) [6] rfl) $$ [Hs]
  · isplitr; · iexact Hf
    iexact Hs
  iintro Hs
  iapply (sig_st m K c _ 6 (dev7_eq c) [] rfl) $$ [Hs]
  · isplitr; · iexact Hf
    iexact Hs
  iintro Hs
  unfold sigSt
  icases Hs with ⟨HO, -⟩
  iapply (barwait_step m K c comm comm_bar rfl) $$ [Hc HO Ha]
  · isplitr; · iexact Hf
    isplitl [Hc]; · iexact Hc
    isplitl [HO]; · iexact HO
    iexact Ha
  iintro Hs
  rw [wp_ret]; imodintro
  iapply Hk
  iexact Hs

theorem part4_ok {h0 : (Memref.whole cc0_stg0_0 : Memref sig .tc .vmem S256x256 .bf16).IsWhole} {h1 : (Memref.whole cc0_stg1_0 : Memref sig .tc .vmem S256x512 .bf16).IsWhole} {h2 : (Memref.whole cc0_stg2_0 : Memref sig .tc .vmem S512x256 .bf16).IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v105 : FVec F S256x256 .f32), BitVec 32) → sProp 𝕄} :
    iprop(facts m K ∗ stgP c cc0_stg0_0 (stg0 m c) ∗ stgP c cc0_stg1_0 (stg1 m c) ∗ stgP c cc0_stg2_0 (stg2 m c) ∗ (∃ f, pPts c 0 fullShare f))
      ⊢ iprop((∀ z : BitVec 32, iprop(stgP c cc0_stg0_0 (stg0 m c) ∗ stgP c cc0_stg1_0 (stg1 m c) ∗ stgP c cc0_stg2_0 (stg2 m c) ∗ pPts c 0 fullShare (pCan m 0 c)) -∗ Kt ⟨(pk m 0 c), z⟩)
        -∗ wp frame (wpE (defs₀ (F := F)) 𝒱₀ (c : Thread nD τ) none) Set.univ
          (k0_part4 (F := F) (Memref.whole cc0_stg0_0) h0 (Memref.whole cc0_stg1_0) h1 (Memref.whole cc0_stg2_0) h2 a3 h3 a4 h4 a5 h5 a6 h6 a7 h7 partB h8 gathB h9 cc0_scratch2 cc0_scratch3 v2) Kt) := by
  rw [k0_part4_eq_skeleton]; unfold k0_part4_skel
  simp only [semSignalWord, semWaitWord, Prog.lift, Prog.bind_op, Prog.bind_ret, Prog.pure_eq_ret, wp_deviceId]
  iintro ⟨#Hf, W0, W1, W2, Hp⟩ Hk
  iapply (wload0 c (stg0 m c)) $$ W0; iintro W0
  iapply (wload1 c (stg1 m c)) $$ W1; iintro W1
  iapply (wload2 c (stg2 m c)) $$ W2; iintro W2
  icases Hp with ⟨%f, Hp⟩
  iapply (pload_step c 0 f) $$ Hp; iintro Hp
  iapply (pstore_step m c 0 f (bk m 0 c) rfl rfl) $$ Hp; iintro Hp
  rw [pay2_eq]
  rw [wp_ret]; imodintro
  iapply Hk
  isplitl [W0]; · iexact W0
  isplitl [W1]; · iexact W1
  isplitl [W2]; · iexact W2
  iexact Hp

theorem part5_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v141 : BitVec 32) (v154 : BitVec 32) (v155 : BitVec 32) (v156 : BitVec 1) (v157 : BitVec 1), BitVec 1) → sProp 𝕄} :
    iprop(facts m K ∗ sendSt m c 0 [0, 1, 2, 3, 4, 5, 6] 0)
      ⊢ iprop((∀ v141 : BitVec 32, ∀ v154 : BitVec 32, ∀ v155 : BitVec 32, ∀ v156 : BitVec 1, ∀ v157 : BitVec 1, ∀ z : BitVec 1, iprop(sendSt m c 0 [2, 3, 4, 5, 6] 2) -∗ Kt ⟨v141, v154, v155, v156, v157, z⟩)
        -∗ wp frame (wpE (defs₀ (F := F)) 𝒱₀ (c : Thread nD τ) none) Set.univ
          (k0_part5 (F := F) a0 h0 a1 h1 a2 h2 a3 h3 a4 h4 a5 h5 a6 h6 a7 h7 partB h8 gathB h9 cc0_scratch2 cc0_scratch3 c v2) Kt) := by
  rw [k0_part5_eq_skeleton]; unfold k0_part5_skel
  simp only [semSignalWord, semWaitWord, Prog.lift, Prog.bind_op, Prog.bind_ret, Prog.pure_eq_ret, wp_deviceId]
  iintro ⟨#Hf, Hx⟩ Hk
  iapply (send_st m K c _ 0 0 (dev8_eq c) _ _ rfl rfl _ _ rfl rfl [1, 2, 3, 4, 5, 6] 0) $$ [Hx]
  · isplitr; · iexact Hf
    iexact Hx
  iintro Hx
  iapply (send_st m K c _ 0 1 (dev9_eq c) _ _ rfl rfl _ _ rfl rfl [2, 3, 4, 5, 6] 1) $$ [Hx]
  · isplitr; · iexact Hf
    iexact Hx
  iintro Hx
  rw [wp_ret]; imodintro
  iapply Hk
  iexact Hx

theorem part6_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v154 : BitVec 32) (v155 : BitVec 32) (v156 : BitVec 1) (v157 : BitVec 1) (v158 : BitVec 1) {Kt : (Σ' (v162 : BitVec 32), BitVec 32) → sProp 𝕄} :
    iprop(facts m K ∗ sendSt m c 0 [2, 3, 4, 5, 6] 2)
      ⊢ iprop((∀ v162 : BitVec 32, ∀ z : BitVec 32, iprop(sendSt m c 0 [3, 4, 5, 6] 3) -∗ Kt ⟨v162, z⟩)
        -∗ wp frame (wpE (defs₀ (F := F)) 𝒱₀ (c : Thread nD τ) none) Set.univ
          (k0_part6 (F := F) a0 h0 a1 h1 a2 h2 a3 h3 a4 h4 a5 h5 a6 h6 a7 h7 partB h8 gathB h9 cc0_scratch2 cc0_scratch3 c v2 v154 v155 v156 v157 v158) Kt) := by
  rw [k0_part6_eq_skeleton]; unfold k0_part6_skel
  simp only [semSignalWord, semWaitWord, Prog.lift, Prog.bind_op, Prog.bind_ret, Prog.pure_eq_ret, wp_deviceId]
  iintro ⟨#Hf, Hx⟩ Hk
  iapply (send_st m K c _ 0 2 (dev10_eq c) _ _ rfl rfl _ _ rfl rfl [3, 4, 5, 6] 2) $$ [Hx]
  · isplitr; · iexact Hf
    iexact Hx
  iintro Hx
  rw [wp_ret]; imodintro
  iapply Hk
  iexact Hx

theorem part7_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v204 : BitVec 32) (v217 : BitVec 32) (v218 : BitVec 32) (v219 : BitVec 1) (v220 : BitVec 1), BitVec 1) → sProp 𝕄} :
    iprop(facts m K ∗ sendSt m c 0 [3, 4, 5, 6] 3)
      ⊢ iprop((∀ v204 : BitVec 32, ∀ v217 : BitVec 32, ∀ v218 : BitVec 32, ∀ v219 : BitVec 1, ∀ v220 : BitVec 1, ∀ z : BitVec 1, iprop(sendSt m c 0 [5, 6] 5) -∗ Kt ⟨v204, v217, v218, v219, v220, z⟩)
        -∗ wp frame (wpE (defs₀ (F := F)) 𝒱₀ (c : Thread nD τ) none) Set.univ
          (k0_part7 (F := F) a0 h0 a1 h1 a2 h2 a3 h3 a4 h4 a5 h5 a6 h6 a7 h7 partB h8 gathB h9 cc0_scratch2 cc0_scratch3 c v2) Kt) := by
  rw [k0_part7_eq_skeleton]; unfold k0_part7_skel
  simp only [semSignalWord, semWaitWord, Prog.lift, Prog.bind_op, Prog.bind_ret, Prog.pure_eq_ret, wp_deviceId]
  iintro ⟨#Hf, Hx⟩ Hk
  iapply (send_st m K c _ 0 3 (dev11_eq c) _ _ rfl rfl _ _ rfl rfl [4, 5, 6] 3) $$ [Hx]
  · isplitr; · iexact Hf
    iexact Hx
  iintro Hx
  iapply (send_st m K c _ 0 4 (dev12_eq c) _ _ rfl rfl _ _ rfl rfl [5, 6] 4) $$ [Hx]
  · isplitr; · iexact Hf
    iexact Hx
  iintro Hx
  rw [wp_ret]; imodintro
  iapply Hk
  iexact Hx

theorem part8_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v217 : BitVec 32) (v218 : BitVec 32) (v219 : BitVec 1) (v220 : BitVec 1) (v221 : BitVec 1) {Kt : (Σ' (v225 : BitVec 32), BitVec 32) → sProp 𝕄} :
    iprop(facts m K ∗ sendSt m c 0 [5, 6] 5)
      ⊢ iprop((∀ v225 : BitVec 32, ∀ z : BitVec 32, iprop(sendSt m c 0 [6] 6) -∗ Kt ⟨v225, z⟩)
        -∗ wp frame (wpE (defs₀ (F := F)) 𝒱₀ (c : Thread nD τ) none) Set.univ
          (k0_part8 (F := F) a0 h0 a1 h1 a2 h2 a3 h3 a4 h4 a5 h5 a6 h6 a7 h7 partB h8 gathB h9 cc0_scratch2 cc0_scratch3 c v2 v217 v218 v219 v220 v221) Kt) := by
  rw [k0_part8_eq_skeleton]; unfold k0_part8_skel
  simp only [semSignalWord, semWaitWord, Prog.lift, Prog.bind_op, Prog.bind_ret, Prog.pure_eq_ret, wp_deviceId]
  iintro ⟨#Hf, Hx⟩ Hk
  iapply (send_st m K c _ 0 5 (dev13_eq c) _ _ rfl rfl _ _ rfl rfl [6] 5) $$ [Hx]
  · isplitr; · iexact Hf
    iexact Hx
  iintro Hx
  rw [wp_ret]; imodintro
  iapply Hk
  iexact Hx

theorem part9_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v120 : BitVec 32) {Kt : PUnit → sProp 𝕄} :
    iprop(facts m K ∗ sendSt m c 0 [6] 6 ∗ atPos ER (cell c (cSend 0)) 0 ∅ 0 ∗ wRem m c (cRecv 0) 7)
      ⊢ iprop((iprop(waitSt m c 0 5 6) -∗ Kt ⟨⟩)
        -∗ wp frame (wpE (defs₀ (F := F)) 𝒱₀ (c : Thread nD τ) none) Set.univ
          (k0_part9 (F := F) a0 h0 a1 h1 a2 h2 a3 h3 a4 h4 a5 h5 a6 h6 a7 h7 partB h8 gathB h9 cc0_scratch2 cc0_scratch3 c v120) Kt) := by
  rw [k0_part9_eq_skeleton]; unfold k0_part9_skel
  simp only [semSignalWord, semWaitWord, Prog.lift, Prog.bind_op, Prog.bind_ret, Prog.pure_eq_ret, wp_deviceId]
  iintro ⟨#Hf, Hx, Ht, Hv⟩ Hk
  iapply (send_st m K c _ 0 6 (dev14_eq c) _ _ rfl rfl _ _ rfl rfl [] 6) $$ [Hx]
  · isplitr; · iexact Hf
    iexact Hx
  iintro Hx
  ihave Hw := (to_waits m c 0) $$ [Hx Ht Hv]
  · isplitl [Hx]; · iexact Hx
    isplitl [Ht]; · iexact Ht
    iexact Hv
  iapply (swait_st m K c 0 6 7 (by decide) _ _ _ rfl rfl) $$ [Hw]
  · isplitr; · iexact Hf
    iexact Hw
  iintro Hw
  iapply (rwait_st m K c 0 0 6 6 (by decide) _ _ _ rfl rfl) $$ [Hw]
  · isplitr; · iexact Hf
    iexact Hw
  iintro Hw
  iapply (swait_st m K c 0 5 6 (by decide) _ _ _ rfl rfl) $$ [Hw]
  · isplitr; · iexact Hf
    iexact Hw
  iintro Hw
  rw [wp_ret]; imodintro
  iapply Hk
  iexact Hw

theorem part10_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v141 : BitVec 32) (v162 : BitVec 32) {Kt : PUnit → sProp 𝕄} :
    iprop(facts m K ∗ waitSt m c 0 5 6)
      ⊢ iprop((iprop(waitSt m c 0 4 4) -∗ Kt ⟨⟩)
        -∗ wp frame (wpE (defs₀ (F := F)) 𝒱₀ (c : Thread nD τ) none) Set.univ
          (k0_part10 (F := F) a0 h0 a1 h1 a2 h2 a3 h3 a4 h4 a5 h5 a6 h6 a7 h7 partB h8 gathB h9 cc0_scratch2 cc0_scratch3 v141 v162) Kt) := by
  rw [k0_part10_eq_skeleton]; unfold k0_part10_skel
  simp only [semSignalWord, semWaitWord, Prog.lift, Prog.bind_op, Prog.bind_ret, Prog.pure_eq_ret, wp_deviceId]
  iintro ⟨#Hf, Hw⟩ Hk
  iapply (rwait_st m K c 0 1 5 5 (by decide) _ _ _ rfl rfl) $$ [Hw]
  · isplitr; · iexact Hf
    iexact Hw
  iintro Hw
  iapply (swait_st m K c 0 4 5 (by decide) _ _ _ rfl rfl) $$ [Hw]
  · isplitr; · iexact Hf
    iexact Hw
  iintro Hw
  iapply (rwait_st m K c 0 2 4 4 (by decide) _ _ _ rfl rfl) $$ [Hw]
  · isplitr; · iexact Hf
    iexact Hw
  iintro Hw
  rw [wp_ret]; imodintro
  iapply Hk
  iexact Hw

theorem part11_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v183 : BitVec 32) (v204 : BitVec 32) {Kt : PUnit → sProp 𝕄} :
    iprop(facts m K ∗ waitSt m c 0 4 4)
      ⊢ iprop((iprop(waitSt m c 0 2 3) -∗ Kt ⟨⟩)
        -∗ wp frame (wpE (defs₀ (F := F)) 𝒱₀ (c : Thread nD τ) none) Set.univ
          (k0_part11 (F := F) a0 h0 a1 h1 a2 h2 a3 h3 a4 h4 a5 h5 a6 h6 a7 h7 partB h8 gathB h9 cc0_scratch2 cc0_scratch3 v183 v204) Kt) := by
  rw [k0_part11_eq_skeleton]; unfold k0_part11_skel
  simp only [semSignalWord, semWaitWord, Prog.lift, Prog.bind_op, Prog.bind_ret, Prog.pure_eq_ret, wp_deviceId]
  iintro ⟨#Hf, Hw⟩ Hk
  iapply (swait_st m K c 0 3 4 (by decide) _ _ _ rfl rfl) $$ [Hw]
  · isplitr; · iexact Hf
    iexact Hw
  iintro Hw
  iapply (rwait_st m K c 0 3 3 3 (by decide) _ _ _ rfl rfl) $$ [Hw]
  · isplitr; · iexact Hf
    iexact Hw
  iintro Hw
  iapply (swait_st m K c 0 2 3 (by decide) _ _ _ rfl rfl) $$ [Hw]
  · isplitr; · iexact Hf
    iexact Hw
  iintro Hw
  rw [wp_ret]; imodintro
  iapply Hk
  iexact Hw

theorem part12_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v225 : BitVec 32) {Kt : PUnit → sProp 𝕄} :
    iprop(facts m K ∗ waitSt m c 0 2 3)
      ⊢ iprop((iprop(waitSt m c 0 1 1) -∗ Kt ⟨⟩)
        -∗ wp frame (wpE (defs₀ (F := F)) 𝒱₀ (c : Thread nD τ) none) Set.univ
          (k0_part12 (F := F) a0 h0 a1 h1 a2 h2 a3 h3 a4 h4 a5 h5 a6 h6 a7 h7 partB h8 gathB h9 cc0_scratch2 cc0_scratch3 v225) Kt) := by
  rw [k0_part12_eq_skeleton]; unfold k0_part12_skel
  simp only [semSignalWord, semWaitWord, Prog.lift, Prog.bind_op, Prog.bind_ret, Prog.pure_eq_ret, wp_deviceId]
  iintro ⟨#Hf, Hw⟩ Hk
  iapply (rwait_st m K c 0 4 2 2 (by decide) _ _ _ rfl rfl) $$ [Hw]
  · isplitr; · iexact Hf
    iexact Hw
  iintro Hw
  iapply (swait_st m K c 0 1 2 (by decide) _ _ _ rfl rfl) $$ [Hw]
  · isplitr; · iexact Hf
    iexact Hw
  iintro Hw
  iapply (rwait_st m K c 0 5 1 1 (by decide) _ _ _ rfl rfl) $$ [Hw]
  · isplitr; · iexact Hf
    iexact Hw
  iintro Hw
  rw [wp_ret]; imodintro
  iapply Hk
  iexact Hw

theorem part13_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v246 : BitVec 32) {Kt : (FVec F S256x256 .f32) → sProp 𝕄} :
    iprop(facts m K ∗ waitSt m c 0 1 1)
      ⊢ iprop((iprop(owesE c (rest 0) ∗ doneSt m c 0) -∗ Kt (k0_pay4 (pk m 0 c) (up (bk m 0 (mi c 0))) (up (bk m 0 (mi c 1))) (up (bk m 0 (mi c 2))) (up (bk m 0 (mi c 3)))))
        -∗ wp frame (wpE (defs₀ (F := F)) 𝒱₀ (c : Thread nD τ) none) Set.univ
          (k0_part13 (F := F) a0 h0 a1 h1 a2 h2 a3 h3 a4 h4 a5 h5 a6 h6 a7 h7 partB h8 gathB h9 cc0_scratch2 cc0_scratch3 (pk m 0 c) v246) Kt) := by
  rw [k0_part13_eq_skeleton]; unfold k0_part13_skel
  simp only [semSignalWord, semWaitWord, Prog.lift, Prog.bind_op, Prog.bind_ret, Prog.pure_eq_ret, wp_deviceId]
  iintro ⟨#Hf, Hw⟩ Hk
  iapply (swait_st m K c 0 0 1 (by decide) _ _ _ rfl rfl) $$ [Hw]
  · isplitr; · iexact Hf
    iexact Hw
  iintro Hw
  iapply (rwait_st m K c 0 6 0 0 (by decide) _ _ _ rfl rfl) $$ [Hw]
  · isplitr; · iexact Hf
    iexact Hw
  iintro Hw
  ihave Hd := (to_done m c 0) $$ Hw
  icases Hd with ⟨HO, Hd⟩
  iapply (gload_dn m c 0 0) $$ Hd; iintro Hd
  iapply (gload_dn m c 0 1) $$ Hd; iintro Hd
  iapply (gload_dn m c 0 2) $$ Hd; iintro Hd
  iapply (gload_dn m c 0 3) $$ Hd; iintro Hd
  rw [wp_ret]; imodintro
  iapply Hk
  isplitl [HO]; · iexact HO
  iexact Hd

end Cert.AllGather

end
-- ==== Proof.PartsB.lean ====
/-
The second layer: its products and its exchange.
-/
module

public import proofs.«01_k».proof.Proof.Done

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

theorem part14_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {h3 : (Memref.whole cc0_stg3_0 : Memref sig .tc .vmem S256x512 .bf16).IsWhole} {h4 : (Memref.whole cc0_stg4_0 : Memref sig .tc .vmem S512x256 .bf16).IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v392 : FVec F S256x256 .f32) (v399 : BitVec 32) (v400 : BitVec 32) (v401 : BitVec 1) (v402 : BitVec 1), BitVec 1) → sProp 𝕄} :
    iprop(facts m K ∗ stgP c cc0_stg3_0 (stg3 m c) ∗ stgP c cc0_stg4_0 (stg4 m c) ∗ (∃ f, pPts c 1 fullShare f) ∗ doneSt m c 0)
      ⊢ iprop((∀ v399 : BitVec 32, ∀ v400 : BitVec 32, ∀ v401 : BitVec 1, ∀ v402 : BitVec 1, ∀ z : BitVec 1, iprop(stgP c cc0_stg3_0 (stg3 m c) ∗ stgP c cc0_stg4_0 (stg4 m c) ∗ pPts c 1 fullShare (pCan m 1 c) ∗ doneSt m c 0) -∗ Kt ⟨(pk m 1 c), v399, v400, v401, v402, z⟩)
        -∗ wp frame (wpE (defs₀ (F := F)) 𝒱₀ (c : Thread nD τ) none) Set.univ
          (k0_part14 (F := F) a0 h0 a1 h1 a2 h2 (Memref.whole cc0_stg3_0) h3 (Memref.whole cc0_stg4_0) h4 a5 h5 a6 h6 a7 h7 partB h8 gathB h9 cc0_scratch2 cc0_scratch3 v2 (k0_pay4 (pk m 0 c) (up (bk m 0 (mi c 0))) (up (bk m 0 (mi c 1))) (up (bk m 0 (mi c 2))) (up (bk m 0 (mi c 3))))) Kt) := by
  rw [k0_part14_eq_skeleton]; unfold k0_part14_skel
  simp only [semSignalWord, semWaitWord, Prog.lift, Prog.bind_op, Prog.bind_ret, Prog.pure_eq_ret, wp_deviceId]
  iintro ⟨#Hf, W3, W4, Hp, Hd⟩ Hk
  iapply (gload_dn m c 0 4) $$ Hd; iintro Hd
  iapply (gload_dn m c 0 5) $$ Hd; iintro Hd
  iapply (gload_dn m c 0 6) $$ Hd; iintro Hd
  iapply (wload3 c (stg3 m c)) $$ W3; iintro W3
  iapply (wload4 c (stg4 m c)) $$ W4; iintro W4
  icases Hp with ⟨%f, Hp⟩
  iapply (pload_step c 1 f) $$ Hp; iintro Hp
  iapply (pstore_step m c 1 f (bk m 1 c) rfl (pay6_eq m c)) $$ Hp; iintro Hp
  rw [pay5_eq]
  rw [wp_ret]; imodintro
  iapply Hk
  isplitl [W3]; · iexact W3
  isplitl [W4]; · iexact W4
  isplitl [Hp]; · iexact Hp
  iexact Hd

theorem part15_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v399 : BitVec 32) (v400 : BitVec 32) (v401 : BitVec 1) (v402 : BitVec 1) (v403 : BitVec 1) {Kt : (Σ' (v407 : BitVec 32), BitVec 32) → sProp 𝕄} :
    iprop(facts m K ∗ sendSt m c 1 [0, 1, 2, 3, 4, 5, 6] 0)
      ⊢ iprop((∀ v407 : BitVec 32, ∀ z : BitVec 32, iprop(sendSt m c 1 [1, 2, 3, 4, 5, 6] 1) -∗ Kt ⟨v407, z⟩)
        -∗ wp frame (wpE (defs₀ (F := F)) 𝒱₀ (c : Thread nD τ) none) Set.univ
          (k0_part15 (F := F) a0 h0 a1 h1 a2 h2 a3 h3 a4 h4 a5 h5 a6 h6 a7 h7 partB h8 gathB h9 cc0_scratch2 cc0_scratch3 c v2 v399 v400 v401 v402 v403) Kt) := by
  rw [k0_part15_eq_skeleton]; unfold k0_part15_skel
  simp only [semSignalWord, semWaitWord, Prog.lift, Prog.bind_op, Prog.bind_ret, Prog.pure_eq_ret, wp_deviceId]
  iintro ⟨#Hf, Hx⟩ Hk
  iapply (send_st m K c _ 1 0 (dev15_eq c) _ _ rfl rfl _ _ rfl rfl [1, 2, 3, 4, 5, 6] 0) $$ [Hx]
  · isplitr; · iexact Hf
    iexact Hx
  iintro Hx
  rw [wp_ret]; imodintro
  iapply Hk
  iexact Hx

theorem part16_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v449 : BitVec 32) (v462 : BitVec 32) (v463 : BitVec 32) (v464 : BitVec 1) (v465 : BitVec 1), BitVec 1) → sProp 𝕄} :
    iprop(facts m K ∗ sendSt m c 1 [1, 2, 3, 4, 5, 6] 1)
      ⊢ iprop((∀ v449 : BitVec 32, ∀ v462 : BitVec 32, ∀ v463 : BitVec 32, ∀ v464 : BitVec 1, ∀ v465 : BitVec 1, ∀ z : BitVec 1, iprop(sendSt m c 1 [3, 4, 5, 6] 3) -∗ Kt ⟨v449, v462, v463, v464, v465, z⟩)
        -∗ wp frame (wpE (defs₀ (F := F)) 𝒱₀ (c : Thread nD τ) none) Set.univ
          (k0_part16 (F := F) a0 h0 a1 h1 a2 h2 a3 h3 a4 h4 a5 h5 a6 h6 a7 h7 partB h8 gathB h9 cc0_scratch2 cc0_scratch3 c v2) Kt) := by
  rw [k0_part16_eq_skeleton]; unfold k0_part16_skel
  simp only [semSignalWord, semWaitWord, Prog.lift, Prog.bind_op, Prog.bind_ret, Prog.pure_eq_ret, wp_deviceId]
  iintro ⟨#Hf, Hx⟩ Hk
  iapply (send_st m K c _ 1 1 (dev16_eq c) _ _ rfl rfl _ _ rfl rfl [2, 3, 4, 5, 6] 1) $$ [Hx]
  · isplitr; · iexact Hf
    iexact Hx
  iintro Hx
  iapply (send_st m K c _ 1 2 (dev17_eq c) _ _ rfl rfl _ _ rfl rfl [3, 4, 5, 6] 2) $$ [Hx]
  · isplitr; · iexact Hf
    iexact Hx
  iintro Hx
  rw [wp_ret]; imodintro
  iapply Hk
  iexact Hx

theorem part17_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v462 : BitVec 32) (v463 : BitVec 32) (v464 : BitVec 1) (v465 : BitVec 1) (v466 : BitVec 1) {Kt : (Σ' (v470 : BitVec 32), BitVec 32) → sProp 𝕄} :
    iprop(facts m K ∗ sendSt m c 1 [3, 4, 5, 6] 3)
      ⊢ iprop((∀ v470 : BitVec 32, ∀ z : BitVec 32, iprop(sendSt m c 1 [4, 5, 6] 4) -∗ Kt ⟨v470, z⟩)
        -∗ wp frame (wpE (defs₀ (F := F)) 𝒱₀ (c : Thread nD τ) none) Set.univ
          (k0_part17 (F := F) a0 h0 a1 h1 a2 h2 a3 h3 a4 h4 a5 h5 a6 h6 a7 h7 partB h8 gathB h9 cc0_scratch2 cc0_scratch3 c v2 v462 v463 v464 v465 v466) Kt) := by
  rw [k0_part17_eq_skeleton]; unfold k0_part17_skel
  simp only [semSignalWord, semWaitWord, Prog.lift, Prog.bind_op, Prog.bind_ret, Prog.pure_eq_ret, wp_deviceId]
  iintro ⟨#Hf, Hx⟩ Hk
  iapply (send_st m K c _ 1 3 (dev18_eq c) _ _ rfl rfl _ _ rfl rfl [4, 5, 6] 3) $$ [Hx]
  · isplitr; · iexact Hf
    iexact Hx
  iintro Hx
  rw [wp_ret]; imodintro
  iapply Hk
  iexact Hx

theorem part18_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v512 : BitVec 32) (v525 : BitVec 32) (v526 : BitVec 32) (v527 : BitVec 1) (v528 : BitVec 1), BitVec 1) → sProp 𝕄} :
    iprop(facts m K ∗ sendSt m c 1 [4, 5, 6] 4)
      ⊢ iprop((∀ v512 : BitVec 32, ∀ v525 : BitVec 32, ∀ v526 : BitVec 32, ∀ v527 : BitVec 1, ∀ v528 : BitVec 1, ∀ z : BitVec 1, iprop(sendSt m c 1 [6] 6) -∗ Kt ⟨v512, v525, v526, v527, v528, z⟩)
        -∗ wp frame (wpE (defs₀ (F := F)) 𝒱₀ (c : Thread nD τ) none) Set.univ
          (k0_part18 (F := F) a0 h0 a1 h1 a2 h2 a3 h3 a4 h4 a5 h5 a6 h6 a7 h7 partB h8 gathB h9 cc0_scratch2 cc0_scratch3 c v2) Kt) := by
  rw [k0_part18_eq_skeleton]; unfold k0_part18_skel
  simp only [semSignalWord, semWaitWord, Prog.lift, Prog.bind_op, Prog.bind_ret, Prog.pure_eq_ret, wp_deviceId]
  iintro ⟨#Hf, Hx⟩ Hk
  iapply (send_st m K c _ 1 4 (dev19_eq c) _ _ rfl rfl _ _ rfl rfl [5, 6] 4) $$ [Hx]
  · isplitr; · iexact Hf
    iexact Hx
  iintro Hx
  iapply (send_st m K c _ 1 5 (dev20_eq c) _ _ rfl rfl _ _ rfl rfl [6] 5) $$ [Hx]
  · isplitr; · iexact Hf
    iexact Hx
  iintro Hx
  rw [wp_ret]; imodintro
  iapply Hk
  iexact Hx

theorem part19_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v407 : BitVec 32) (v525 : BitVec 32) (v526 : BitVec 32) (v527 : BitVec 1) (v528 : BitVec 1) (v529 : BitVec 1) {Kt : (BitVec 32) → sProp 𝕄} :
    iprop(facts m K ∗ sendSt m c 1 [6] 6 ∗ atPos ER (cell c (cSend 1)) 0 ∅ 0 ∗ wRem m c (cRecv 1) 7)
      ⊢ iprop((∀ r : BitVec 32, iprop(waitSt m c 1 6 7) -∗ Kt r)
        -∗ wp frame (wpE (defs₀ (F := F)) 𝒱₀ (c : Thread nD τ) none) Set.univ
          (k0_part19 (F := F) a0 h0 a1 h1 a2 h2 a3 h3 a4 h4 a5 h5 a6 h6 a7 h7 partB h8 gathB h9 cc0_scratch2 cc0_scratch3 c v407 v525 v526 v527 v528 v529) Kt) := by
  rw [k0_part19_eq_skeleton]; unfold k0_part19_skel
  simp only [semSignalWord, semWaitWord, Prog.lift, Prog.bind_op, Prog.bind_ret, Prog.pure_eq_ret, wp_deviceId]
  iintro ⟨#Hf, Hx, Ht, Hv⟩ Hk
  iapply (send_st m K c _ 1 6 (dev21_eq c) _ _ rfl rfl _ _ rfl rfl [] 6) $$ [Hx]
  · isplitr; · iexact Hf
    iexact Hx
  iintro Hx
  ihave Hw := (to_waits m c 1) $$ [Hx Ht Hv]
  · isplitl [Hx]; · iexact Hx
    isplitl [Ht]; · iexact Ht
    iexact Hv
  iapply (swait_st m K c 1 6 7 (by decide) _ _ _ rfl rfl) $$ [Hw]
  · isplitr; · iexact Hf
    iexact Hw
  iintro Hw
  rw [wp_ret]; imodintro
  iapply Hk
  iexact Hw

theorem part20_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v428 : BitVec 32) {Kt : PUnit → sProp 𝕄} :
    iprop(facts m K ∗ waitSt m c 1 6 7)
      ⊢ iprop((iprop(waitSt m c 1 4 5) -∗ Kt ⟨⟩)
        -∗ wp frame (wpE (defs₀ (F := F)) 𝒱₀ (c : Thread nD τ) none) Set.univ
          (k0_part20 (F := F) a0 h0 a1 h1 a2 h2 a3 h3 a4 h4 a5 h5 a6 h6 a7 h7 partB h8 gathB h9 cc0_scratch2 cc0_scratch3 v428) Kt) := by
  rw [k0_part20_eq_skeleton]; unfold k0_part20_skel
  simp only [semSignalWord, semWaitWord, Prog.lift, Prog.bind_op, Prog.bind_ret, Prog.pure_eq_ret, wp_deviceId]
  iintro ⟨#Hf, Hw⟩ Hk
  iapply (rwait_st m K c 1 0 6 6 (by decide) _ _ _ rfl rfl) $$ [Hw]
  · isplitr; · iexact Hf
    iexact Hw
  iintro Hw
  iapply (swait_st m K c 1 5 6 (by decide) _ _ _ rfl rfl) $$ [Hw]
  · isplitr; · iexact Hf
    iexact Hw
  iintro Hw
  iapply (rwait_st m K c 1 1 5 5 (by decide) _ _ _ rfl rfl) $$ [Hw]
  · isplitr; · iexact Hf
    iexact Hw
  iintro Hw
  iapply (swait_st m K c 1 4 5 (by decide) _ _ _ rfl rfl) $$ [Hw]
  · isplitr; · iexact Hf
    iexact Hw
  iintro Hw
  rw [wp_ret]; imodintro
  iapply Hk
  iexact Hw

theorem part21_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v449 : BitVec 32) (v470 : BitVec 32) {Kt : PUnit → sProp 𝕄} :
    iprop(facts m K ∗ waitSt m c 1 4 5)
      ⊢ iprop((iprop(waitSt m c 1 3 3) -∗ Kt ⟨⟩)
        -∗ wp frame (wpE (defs₀ (F := F)) 𝒱₀ (c : Thread nD τ) none) Set.univ
          (k0_part21 (F := F) a0 h0 a1 h1 a2 h2 a3 h3 a4 h4 a5 h5 a6 h6 a7 h7 partB h8 gathB h9 cc0_scratch2 cc0_scratch3 v449 v470) Kt) := by
  rw [k0_part21_eq_skeleton]; unfold k0_part21_skel
  simp only [semSignalWord, semWaitWord, Prog.lift, Prog.bind_op, Prog.bind_ret, Prog.pure_eq_ret, wp_deviceId]
  iintro ⟨#Hf, Hw⟩ Hk
  iapply (rwait_st m K c 1 2 4 4 (by decide) _ _ _ rfl rfl) $$ [Hw]
  · isplitr; · iexact Hf
    iexact Hw
  iintro Hw
  iapply (swait_st m K c 1 3 4 (by decide) _ _ _ rfl rfl) $$ [Hw]
  · isplitr; · iexact Hf
    iexact Hw
  iintro Hw
  iapply (rwait_st m K c 1 3 3 3 (by decide) _ _ _ rfl rfl) $$ [Hw]
  · isplitr; · iexact Hf
    iexact Hw
  iintro Hw
  rw [wp_ret]; imodintro
  iapply Hk
  iexact Hw

theorem part22_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v491 : BitVec 32) (v512 : BitVec 32) {Kt : PUnit → sProp 𝕄} :
    iprop(facts m K ∗ waitSt m c 1 3 3)
      ⊢ iprop((iprop(waitSt m c 1 1 2) -∗ Kt ⟨⟩)
        -∗ wp frame (wpE (defs₀ (F := F)) 𝒱₀ (c : Thread nD τ) none) Set.univ
          (k0_part22 (F := F) a0 h0 a1 h1 a2 h2 a3 h3 a4 h4 a5 h5 a6 h6 a7 h7 partB h8 gathB h9 cc0_scratch2 cc0_scratch3 v491 v512) Kt) := by
  rw [k0_part22_eq_skeleton]; unfold k0_part22_skel
  simp only [semSignalWord, semWaitWord, Prog.lift, Prog.bind_op, Prog.bind_ret, Prog.pure_eq_ret, wp_deviceId]
  iintro ⟨#Hf, Hw⟩ Hk
  iapply (swait_st m K c 1 2 3 (by decide) _ _ _ rfl rfl) $$ [Hw]
  · isplitr; · iexact Hf
    iexact Hw
  iintro Hw
  iapply (rwait_st m K c 1 4 2 2 (by decide) _ _ _ rfl rfl) $$ [Hw]
  · isplitr; · iexact Hf
    iexact Hw
  iintro Hw
  iapply (swait_st m K c 1 1 2 (by decide) _ _ _ rfl rfl) $$ [Hw]
  · isplitr; · iexact Hf
    iexact Hw
  iintro Hw
  rw [wp_ret]; imodintro
  iapply Hk
  iexact Hw

theorem part23_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v533 : BitVec 32) {Kt : (Σ' (v645 : FVec F S256x256 .f32), FVec F S256x256 .f32) → sProp 𝕄} :
    iprop(facts m K ∗ waitSt m c 1 1 2)
      ⊢ iprop((iprop(owesE c (rest 1) ∗ doneSt m c 1) -∗ Kt ⟨(k0_pay7 (pk m 1 c) (up (bk m 1 (mi c 0)))), (k0_pay8 (up (bk m 1 (mi c 1))))⟩)
        -∗ wp frame (wpE (defs₀ (F := F)) 𝒱₀ (c : Thread nD τ) none) Set.univ
          (k0_part23 (F := F) a0 h0 a1 h1 a2 h2 a3 h3 a4 h4 a5 h5 a6 h6 a7 h7 partB h8 gathB h9 cc0_scratch2 cc0_scratch3 (pk m 1 c) v533) Kt) := by
  rw [k0_part23_eq_skeleton]; unfold k0_part23_skel
  simp only [semSignalWord, semWaitWord, Prog.lift, Prog.bind_op, Prog.bind_ret, Prog.pure_eq_ret, wp_deviceId]
  iintro ⟨#Hf, Hw⟩ Hk
  iapply (rwait_st m K c 1 5 1 1 (by decide) _ _ _ rfl rfl) $$ [Hw]
  · isplitr; · iexact Hf
    iexact Hw
  iintro Hw
  iapply (swait_st m K c 1 0 1 (by decide) _ _ _ rfl rfl) $$ [Hw]
  · isplitr; · iexact Hf
    iexact Hw
  iintro Hw
  iapply (rwait_st m K c 1 6 0 0 (by decide) _ _ _ rfl rfl) $$ [Hw]
  · isplitr; · iexact Hf
    iexact Hw
  iintro Hw
  ihave Hd := (to_done m c 1) $$ Hw
  icases Hd with ⟨HO, Hd⟩
  iapply (gload_dn m c 1 0) $$ Hd; iintro Hd
  iapply (gload_dn m c 1 1) $$ Hd; iintro Hd
  rw [wp_ret]; imodintro
  iapply Hk
  isplitl [HO]; · iexact HO
  iexact Hd

end Cert.AllGather

end
-- ==== Proof.PartsC.lean ====
/-
The third layer: its products and its exchange.
-/
module

public import proofs.«01_k».proof.Proof.Done

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

theorem part24_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {h5 : (Memref.whole cc0_stg5_0 : Memref sig .tc .vmem S256x512 .bf16).IsWhole} {h6 : (Memref.whole cc0_stg6_0 : Memref sig .tc .vmem S512x256 .bf16).IsWhole} {a7 : Memref sig .tc .vmem S256x256 .f32} {h7 : a7.IsWhole} {h8 : partB.IsWhole} {h9 : gathB.IsWhole}
    (c : Dev nD)  {Kt : (Σ' (v679 : FVec F S256x256 .f32), FVec F S256x256 .bf16) → sProp 𝕄} :
    iprop(facts m K ∗ stgP c cc0_stg5_0 (stg5 m c) ∗ stgP c cc0_stg6_0 (stg6 m c) ∗ doneSt m c 1)
      ⊢ iprop((iprop(stgP c cc0_stg5_0 (stg5 m c) ∗ stgP c cc0_stg6_0 (stg6 m c) ∗ doneSt m c 1) -∗ Kt ⟨(pk m 2 c), (bk m 2 c)⟩)
        -∗ wp frame (wpE (defs₀ (F := F)) 𝒱₀ (c : Thread nD τ) none) Set.univ
          (k0_part24 (F := F) a0 h0 a1 h1 a2 h2 a3 h3 a4 h4 (Memref.whole cc0_stg5_0) h5 (Memref.whole cc0_stg6_0) h6 a7 h7 partB h8 gathB h9 cc0_scratch2 cc0_scratch3 (k0_pay7 (pk m 1 c) (up (bk m 1 (mi c 0)))) (k0_pay8 (up (bk m 1 (mi c 1))))) Kt) := by
  rw [k0_part24_eq_skeleton]; unfold k0_part24_skel
  simp only [semSignalWord, semWaitWord, Prog.lift, Prog.bind_op, Prog.bind_ret, Prog.pure_eq_ret, wp_deviceId]
  iintro ⟨#Hf, W5, W6, Hd⟩ Hk
  iapply (gload_dn m c 1 2) $$ Hd; iintro Hd
  iapply (gload_dn m c 1 3) $$ Hd; iintro Hd
  iapply (gload_dn m c 1 4) $$ Hd; iintro Hd
  iapply (gload_dn m c 1 5) $$ Hd; iintro Hd
  iapply (gload_dn m c 1 6) $$ Hd; iintro Hd
  iapply (wload5 c (stg5 m c)) $$ W5; iintro W5
  iapply (wload6 c (stg6 m c)) $$ W6; iintro W6
  rw [pay9_eq, pay10_eq]
  rw [wp_ret]; imodintro
  iapply Hk
  isplitl [W5]; · iexact W5
  isplitl [W6]; · iexact W6
  iexact Hd

theorem part25_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v694 : BitVec 32) (v707 : BitVec 32) (v708 : BitVec 32) (v709 : BitVec 1) (v710 : BitVec 1), BitVec 1) → sProp 𝕄} :
    iprop(facts m K ∗ (∃ f, pPts c 2 fullShare f) ∗ owesE c (rest 1) ∗ preRes c 2 all7)
      ⊢ iprop((∀ v694 : BitVec 32, ∀ v707 : BitVec 32, ∀ v708 : BitVec 32, ∀ v709 : BitVec 1, ∀ v710 : BitVec 1, ∀ z : BitVec 1, iprop(pPts c 2 (shareDrop fullShare 7) (pCan m 2 c) ∗ sendSt m c 2 [1, 2, 3, 4, 5, 6] 1) -∗ Kt ⟨v694, v707, v708, v709, v710, z⟩)
        -∗ wp frame (wpE (defs₀ (F := F)) 𝒱₀ (c : Thread nD τ) none) Set.univ
          (k0_part25 (F := F) a0 h0 a1 h1 a2 h2 a3 h3 a4 h4 a5 h5 a6 h6 a7 h7 partB h8 gathB h9 cc0_scratch2 cc0_scratch3 c v2 (bk m 2 c)) Kt) := by
  rw [k0_part25_eq_skeleton]; unfold k0_part25_skel
  simp only [semSignalWord, semWaitWord, Prog.lift, Prog.bind_op, Prog.bind_ret, Prog.pure_eq_ret, wp_deviceId]
  iintro ⟨#Hf, Hp, HO, Hx⟩ Hk
  icases Hp with ⟨%f, Hp⟩
  iapply (pload_step c 2 f) $$ Hp; iintro Hp
  iapply (pstore_step m c 2 f (bk m 2 c) rfl rfl) $$ Hp; iintro Hp
  ihave Hq := (to_sends m c 2) $$ [HO Hx Hp]
  · isplitl [HO]; · iexact HO
    isplitl [Hp]; · iexact Hp
    iexact Hx
  icases Hq with ⟨Hx, Hp⟩
  iapply (send_st m K c _ 2 0 (dev22_eq c) _ _ rfl rfl _ _ rfl rfl [1, 2, 3, 4, 5, 6] 0) $$ [Hx]
  · isplitr; · iexact Hf
    iexact Hx
  iintro Hx
  rw [wp_ret]; imodintro
  iapply Hk
  isplitl [Hp]; · iexact Hp
  iexact Hx

theorem part26_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v707 : BitVec 32) (v708 : BitVec 32) (v709 : BitVec 1) (v710 : BitVec 1) (v711 : BitVec 1) {Kt : (Σ' (v715 : BitVec 32), BitVec 32) → sProp 𝕄} :
    iprop(facts m K ∗ sendSt m c 2 [1, 2, 3, 4, 5, 6] 1)
      ⊢ iprop((∀ v715 : BitVec 32, ∀ z : BitVec 32, iprop(sendSt m c 2 [2, 3, 4, 5, 6] 2) -∗ Kt ⟨v715, z⟩)
        -∗ wp frame (wpE (defs₀ (F := F)) 𝒱₀ (c : Thread nD τ) none) Set.univ
          (k0_part26 (F := F) a0 h0 a1 h1 a2 h2 a3 h3 a4 h4 a5 h5 a6 h6 a7 h7 partB h8 gathB h9 cc0_scratch2 cc0_scratch3 c v2 v707 v708 v709 v710 v711) Kt) := by
  rw [k0_part26_eq_skeleton]; unfold k0_part26_skel
  simp only [semSignalWord, semWaitWord, Prog.lift, Prog.bind_op, Prog.bind_ret, Prog.pure_eq_ret, wp_deviceId]
  iintro ⟨#Hf, Hx⟩ Hk
  iapply (send_st m K c _ 2 1 (dev23_eq c) _ _ rfl rfl _ _ rfl rfl [2, 3, 4, 5, 6] 1) $$ [Hx]
  · isplitr; · iexact Hf
    iexact Hx
  iintro Hx
  rw [wp_ret]; imodintro
  iapply Hk
  iexact Hx

theorem part27_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (Σ' (v757 : BitVec 32) (v770 : BitVec 32) (v771 : BitVec 32) (v772 : BitVec 1) (v773 : BitVec 1), BitVec 1) → sProp 𝕄} :
    iprop(facts m K ∗ sendSt m c 2 [2, 3, 4, 5, 6] 2)
      ⊢ iprop((∀ v757 : BitVec 32, ∀ v770 : BitVec 32, ∀ v771 : BitVec 32, ∀ v772 : BitVec 1, ∀ v773 : BitVec 1, ∀ z : BitVec 1, iprop(sendSt m c 2 [4, 5, 6] 4) -∗ Kt ⟨v757, v770, v771, v772, v773, z⟩)
        -∗ wp frame (wpE (defs₀ (F := F)) 𝒱₀ (c : Thread nD τ) none) Set.univ
          (k0_part27 (F := F) a0 h0 a1 h1 a2 h2 a3 h3 a4 h4 a5 h5 a6 h6 a7 h7 partB h8 gathB h9 cc0_scratch2 cc0_scratch3 c v2) Kt) := by
  rw [k0_part27_eq_skeleton]; unfold k0_part27_skel
  simp only [semSignalWord, semWaitWord, Prog.lift, Prog.bind_op, Prog.bind_ret, Prog.pure_eq_ret, wp_deviceId]
  iintro ⟨#Hf, Hx⟩ Hk
  iapply (send_st m K c _ 2 2 (dev24_eq c) _ _ rfl rfl _ _ rfl rfl [3, 4, 5, 6] 2) $$ [Hx]
  · isplitr; · iexact Hf
    iexact Hx
  iintro Hx
  iapply (send_st m K c _ 2 3 (dev25_eq c) _ _ rfl rfl _ _ rfl rfl [4, 5, 6] 3) $$ [Hx]
  · isplitr; · iexact Hf
    iexact Hx
  iintro Hx
  rw [wp_ret]; imodintro
  iapply Hk
  iexact Hx

theorem part28_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) (v770 : BitVec 32) (v771 : BitVec 32) (v772 : BitVec 1) (v773 : BitVec 1) (v774 : BitVec 1) {Kt : (Σ' (v778 : BitVec 32), BitVec 32) → sProp 𝕄} :
    iprop(facts m K ∗ sendSt m c 2 [4, 5, 6] 4)
      ⊢ iprop((∀ v778 : BitVec 32, ∀ z : BitVec 32, iprop(sendSt m c 2 [5, 6] 5) -∗ Kt ⟨v778, z⟩)
        -∗ wp frame (wpE (defs₀ (F := F)) 𝒱₀ (c : Thread nD τ) none) Set.univ
          (k0_part28 (F := F) a0 h0 a1 h1 a2 h2 a3 h3 a4 h4 a5 h5 a6 h6 a7 h7 partB h8 gathB h9 cc0_scratch2 cc0_scratch3 c v2 v770 v771 v772 v773 v774) Kt) := by
  rw [k0_part28_eq_skeleton]; unfold k0_part28_skel
  simp only [semSignalWord, semWaitWord, Prog.lift, Prog.bind_op, Prog.bind_ret, Prog.pure_eq_ret, wp_deviceId]
  iintro ⟨#Hf, Hx⟩ Hk
  iapply (send_st m K c _ 2 4 (dev26_eq c) _ _ rfl rfl _ _ rfl rfl [5, 6] 4) $$ [Hx]
  · isplitr; · iexact Hf
    iexact Hx
  iintro Hx
  rw [wp_ret]; imodintro
  iapply Hk
  iexact Hx

theorem part29_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v2 : BitVec 32) {Kt : (BitVec 32) → sProp 𝕄} :
    iprop(facts m K ∗ sendSt m c 2 [5, 6] 5)
      ⊢ iprop((∀ r : BitVec 32, iprop(sendSt m c 2 [] 7) -∗ Kt r)
        -∗ wp frame (wpE (defs₀ (F := F)) 𝒱₀ (c : Thread nD τ) none) Set.univ
          (k0_part29 (F := F) a0 h0 a1 h1 a2 h2 a3 h3 a4 h4 a5 h5 a6 h6 a7 h7 partB h8 gathB h9 cc0_scratch2 cc0_scratch3 c v2) Kt) := by
  rw [k0_part29_eq_skeleton]; unfold k0_part29_skel
  simp only [semSignalWord, semWaitWord, Prog.lift, Prog.bind_op, Prog.bind_ret, Prog.pure_eq_ret, wp_deviceId]
  iintro ⟨#Hf, Hx⟩ Hk
  iapply (send_st m K c _ 2 5 (dev27_eq c) _ _ rfl rfl _ _ rfl rfl [6] 5) $$ [Hx]
  · isplitr; · iexact Hf
    iexact Hx
  iintro Hx
  iapply (send_st m K c _ 2 6 (dev28_eq c) _ _ rfl rfl _ _ rfl rfl [] 6) $$ [Hx]
  · isplitr; · iexact Hf
    iexact Hx
  iintro Hx
  rw [wp_ret]; imodintro
  iapply Hk
  iexact Hx

theorem part30_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v694 : BitVec 32) (v715 : BitVec 32) {Kt : PUnit → sProp 𝕄} :
    iprop(facts m K ∗ sendSt m c 2 [] 7 ∗ atPos ER (cell c (cSend 2)) 0 ∅ 0 ∗ wRem m c (cRecv 2) 7)
      ⊢ iprop((iprop(waitSt m c 2 5 5) -∗ Kt ⟨⟩)
        -∗ wp frame (wpE (defs₀ (F := F)) 𝒱₀ (c : Thread nD τ) none) Set.univ
          (k0_part30 (F := F) a0 h0 a1 h1 a2 h2 a3 h3 a4 h4 a5 h5 a6 h6 a7 h7 partB h8 gathB h9 cc0_scratch2 cc0_scratch3 v694 v715) Kt) := by
  rw [k0_part30_eq_skeleton]; unfold k0_part30_skel
  simp only [semSignalWord, semWaitWord, Prog.lift, Prog.bind_op, Prog.bind_ret, Prog.pure_eq_ret, wp_deviceId]
  iintro ⟨#Hf, Hx, Ht, Hv⟩ Hk
  ihave Hw := (to_waits m c 2) $$ [Hx Ht Hv]
  · isplitl [Hx]; · iexact Hx
    isplitl [Ht]; · iexact Ht
    iexact Hv
  iapply (swait_st m K c 2 6 7 (by decide) _ _ _ rfl rfl) $$ [Hw]
  · isplitr; · iexact Hf
    iexact Hw
  iintro Hw
  iapply (rwait_st m K c 2 0 6 6 (by decide) _ _ _ rfl rfl) $$ [Hw]
  · isplitr; · iexact Hf
    iexact Hw
  iintro Hw
  iapply (swait_st m K c 2 5 6 (by decide) _ _ _ rfl rfl) $$ [Hw]
  · isplitr; · iexact Hf
    iexact Hw
  iintro Hw
  iapply (rwait_st m K c 2 1 5 5 (by decide) _ _ _ rfl rfl) $$ [Hw]
  · isplitr; · iexact Hf
    iexact Hw
  iintro Hw
  rw [wp_ret]; imodintro
  iapply Hk
  iexact Hw

theorem part31_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v736 : BitVec 32) {Kt : (BitVec 32) → sProp 𝕄} :
    iprop(facts m K ∗ waitSt m c 2 5 5)
      ⊢ iprop((∀ r : BitVec 32, iprop(waitSt m c 2 3 4) -∗ Kt r)
        -∗ wp frame (wpE (defs₀ (F := F)) 𝒱₀ (c : Thread nD τ) none) Set.univ
          (k0_part31 (F := F) a0 h0 a1 h1 a2 h2 a3 h3 a4 h4 a5 h5 a6 h6 a7 h7 partB h8 gathB h9 cc0_scratch2 cc0_scratch3 v736) Kt) := by
  rw [k0_part31_eq_skeleton]; unfold k0_part31_skel
  simp only [semSignalWord, semWaitWord, Prog.lift, Prog.bind_op, Prog.bind_ret, Prog.pure_eq_ret, wp_deviceId]
  iintro ⟨#Hf, Hw⟩ Hk
  iapply (swait_st m K c 2 4 5 (by decide) _ _ _ rfl rfl) $$ [Hw]
  · isplitr; · iexact Hf
    iexact Hw
  iintro Hw
  iapply (rwait_st m K c 2 2 4 4 (by decide) _ _ _ rfl rfl) $$ [Hw]
  · isplitr; · iexact Hf
    iexact Hw
  iintro Hw
  iapply (swait_st m K c 2 3 4 (by decide) _ _ _ rfl rfl) $$ [Hw]
  · isplitr; · iexact Hf
    iexact Hw
  iintro Hw
  rw [wp_ret]; imodintro
  iapply Hk
  iexact Hw

theorem part32_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v757 : BitVec 32) (v778 : BitVec 32) (c1_i32_894 : BitVec 32) {Kt : PUnit → sProp 𝕄} :
    iprop(facts m K ∗ waitSt m c 2 3 4)
      ⊢ iprop((iprop(waitSt m c 2 2 2) -∗ Kt ⟨⟩)
        -∗ wp frame (wpE (defs₀ (F := F)) 𝒱₀ (c : Thread nD τ) none) Set.univ
          (k0_part32 (F := F) a0 h0 a1 h1 a2 h2 a3 h3 a4 h4 a5 h5 a6 h6 a7 h7 partB h8 gathB h9 cc0_scratch2 cc0_scratch3 v757 v778 c1_i32_894) Kt) := by
  rw [k0_part32_eq_skeleton]; unfold k0_part32_skel
  simp only [semSignalWord, semWaitWord, Prog.lift, Prog.bind_op, Prog.bind_ret, Prog.pure_eq_ret, wp_deviceId]
  iintro ⟨#Hf, Hw⟩ Hk
  iapply (rwait_st m K c 2 3 3 3 (by decide) _ _ _ rfl rfl) $$ [Hw]
  · isplitr; · iexact Hf
    iexact Hw
  iintro Hw
  iapply (swait_st m K c 2 2 3 (by decide) _ _ _ rfl rfl) $$ [Hw]
  · isplitr; · iexact Hf
    iexact Hw
  iintro Hw
  iapply (rwait_st m K c 2 4 2 2 (by decide) _ _ _ rfl rfl) $$ [Hw]
  · isplitr; · iexact Hf
    iexact Hw
  iintro Hw
  rw [wp_ret]; imodintro
  iapply Hk
  iexact Hw

theorem part33_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD) (v799 : BitVec 32) (v820 : BitVec 32) {Kt : PUnit → sProp 𝕄} :
    iprop(facts m K ∗ waitSt m c 2 2 2)
      ⊢ iprop((iprop(waitSt m c 2 0 1) -∗ Kt ⟨⟩)
        -∗ wp frame (wpE (defs₀ (F := F)) 𝒱₀ (c : Thread nD τ) none) Set.univ
          (k0_part33 (F := F) a0 h0 a1 h1 a2 h2 a3 h3 a4 h4 a5 h5 a6 h6 a7 h7 partB h8 gathB h9 cc0_scratch2 cc0_scratch3 v799 v820) Kt) := by
  rw [k0_part33_eq_skeleton]; unfold k0_part33_skel
  simp only [semSignalWord, semWaitWord, Prog.lift, Prog.bind_op, Prog.bind_ret, Prog.pure_eq_ret, wp_deviceId]
  iintro ⟨#Hf, Hw⟩ Hk
  iapply (swait_st m K c 2 1 2 (by decide) _ _ _ rfl rfl) $$ [Hw]
  · isplitr; · iexact Hf
    iexact Hw
  iintro Hw
  iapply (rwait_st m K c 2 5 1 1 (by decide) _ _ _ rfl rfl) $$ [Hw]
  · isplitr; · iexact Hf
    iexact Hw
  iintro Hw
  iapply (swait_st m K c 2 0 1 (by decide) _ _ _ rfl rfl) $$ [Hw]
  · isplitr; · iexact Hf
    iexact Hw
  iintro Hw
  rw [wp_ret]; imodintro
  iapply Hk
  iexact Hw

theorem part34_ok {a0 : Memref sig .tc .vmem S256x256 .bf16} {h0 : a0.IsWhole} {a1 : Memref sig .tc .vmem S256x512 .bf16} {h1 : a1.IsWhole} {a2 : Memref sig .tc .vmem S512x256 .bf16} {h2 : a2.IsWhole} {a3 : Memref sig .tc .vmem S256x512 .bf16} {h3 : a3.IsWhole} {a4 : Memref sig .tc .vmem S512x256 .bf16} {h4 : a4.IsWhole} {a5 : Memref sig .tc .vmem S256x512 .bf16} {h5 : a5.IsWhole} {a6 : Memref sig .tc .vmem S512x256 .bf16} {h6 : a6.IsWhole} {a7 : Memref sig .tc .vmem S256x256 .f32} {h7 : a7.IsWhole} {h8 : partB.IsWhole} {h9 : gathB.IsWhole}
    (c : Dev nD)  {Kt : (Σ' (v952 : FVec F S256x256 .f32), FVec F S256x256 .f32) → sProp 𝕄} :
    iprop(facts m K ∗ waitSt m c 2 0 1)
      ⊢ iprop((iprop(owesE c (rest 2) ∗ doneSt m c 2) -∗ Kt ⟨(k0_pay12 (pk m 2 c) (up (bk m 2 (mi c 0))) (up (bk m 2 (mi c 1))) (up (bk m 2 (mi c 2))) (up (bk m 2 (mi c 3))) (up (bk m 2 (mi c 4))) (up (bk m 2 (mi c 5)))), (k0_pay13 (up (bk m 2 (mi c 6))))⟩)
        -∗ wp frame (wpE (defs₀ (F := F)) 𝒱₀ (c : Thread nD τ) none) Set.univ
          (k0_part34 (F := F) a0 h0 a1 h1 a2 h2 a3 h3 a4 h4 a5 h5 a6 h6 a7 h7 partB h8 gathB h9 cc0_scratch2 cc0_scratch3 (pk m 2 c)) Kt) := by
  rw [k0_part34_eq_skeleton]; unfold k0_part34_skel
  simp only [semSignalWord, semWaitWord, Prog.lift, Prog.bind_op, Prog.bind_ret, Prog.pure_eq_ret, wp_deviceId]
  iintro ⟨#Hf, Hw⟩ Hk
  iapply (rwait_st m K c 2 6 0 0 (by decide) _ _ _ rfl rfl) $$ [Hw]
  · isplitr; · iexact Hf
    iexact Hw
  iintro Hw
  ihave Hd := (to_done m c 2) $$ Hw
  icases Hd with ⟨HO, Hd⟩
  iapply (gload_dn m c 2 0) $$ Hd; iintro Hd
  iapply (gload_dn m c 2 1) $$ Hd; iintro Hd
  iapply (gload_dn m c 2 2) $$ Hd; iintro Hd
  iapply (gload_dn m c 2 3) $$ Hd; iintro Hd
  iapply (gload_dn m c 2 4) $$ Hd; iintro Hd
  iapply (gload_dn m c 2 5) $$ Hd; iintro Hd
  iapply (gload_dn m c 2 6) $$ Hd; iintro Hd
  rw [wp_ret]; imodintro
  iapply Hk
  isplitl [HO]; · iexact HO
  iexact Hd

end Cert.AllGather

end
-- ==== Proof.Body.lean ====
/-
The whole program of one device, from what the launch gives it to its result.
-/
module

public import proofs.«01_k».proof.Proof.Slots
public import proofs.«01_k».proof.Proof.PartsA
public import proofs.«01_k».proof.Proof.PartsB
public import proofs.«01_k».proof.Proof.PartsC

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ)

/-! ## The pipeline's data -/

variable (ρ : Dev nD → PrngReg)

/-- What device `c`'s program starts from, besides its scratch; what it starts from; what it leaves. -/
def start (c : Dev nD) : sProp 𝕄 := iprop((∃ K, facts m K ∗ linear c) ∗ credit c)
def Φ₀ (c : Dev nD) : sProp 𝕄 := iprop(start m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => stg5 m c
    | ⟨6, _⟩ => stg6 m c
    | ⟨7, _⟩ => outAt m c
  Φ t := match t with
    | ⟨0, _⟩ => Φ₀ m c
    | ⟨_ + 1, _⟩ => over c
  q _ := fullShare
  owed t := match t with
    | ⟨0, _⟩ => O₀ c
    | ⟨_ + 1, _⟩ => 0

theorem fetch_in (w : Fin 8) (hw : w ≠ 7) (t : Fin cfg0.N) : (cfg0.win w).fetch t = true := by
  rw [fin_N0 t]; revert w; decide

theorem held_to (c : Dev nD) (b : Ref sig .tc) (X : b.ty.Contents (Elt F)) :
    (iprop(∃ f : Buf (Elt F) ((c : Thread nD τ).loc b), ⌜f = X⌝ ∗ (((c : Thread nD τ).loc b) ↦{fullShare} f)) : sProp 𝕄)
      ⊢ (((c : Thread nD τ).loc b) ↦{fullShare} X) := by
  iintro ⟨%f, %hf, H⟩
  subst hf; iexact H
theorem to_held (c : Dev nD) (b : Ref sig .tc) (X : b.ty.Contents (Elt F)) :
    ((((c : Thread nD τ).loc b) ↦{fullShare} X : sProp 𝕄))
      ⊢ iprop(∃ f : Buf (Elt F) ((c : Thread nD τ).loc b), ⌜f = X⌝ ∗ (((c : Thread nD τ).loc b) ↦{fullShare} f)) := by
  iintro H
  iexists X; isplitr; · (ipureintro; rfl)
  iexact H
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgP c b X := by
  unfold owns stgP
  simp only [Memref.view_whole, View.read_whole, View.set_whole]
  exact Entails.antisymm (held_to c b X) (to_held c b X)

/-! ## The program -/

/-- The input windows as staged. -/
def staged (c : Dev nD) : sProp 𝕄 :=
  iprop(stgP c cc0_stg0_0 (stg0 m c) ∗ stgP c cc0_stg1_0 (stg1 m c) ∗ stgP c cc0_stg2_0 (stg2 m c) ∗ stgP c cc0_stg3_0 (stg3 m c)
    ∗ stgP c cc0_stg4_0 (stg4 m c) ∗ stgP c cc0_stg5_0 (stg5 m c) ∗ stgP c cc0_stg6_0 (stg6 m c))

set_option maxHeartbeats 4000000 in
set_option maxRecDepth 20000 in
/-- From the protocol's start and the staged inputs, the program leaves the result in its output window, everything it owed
    paid, and both scratch buffers and the seven cells as they are handed back. -/
theorem sound_body (c : Dev nD) (Y : (cc0_stg7_0 : Ref sig .tc).ty.Contents (Elt F)) {Kt : PUnit → sProp 𝕄} :
    iprop(facts m K ∗ owesE c (all7.map (fun j => (none, j)) ++ comm) ∗ ready m c ∗ staged m c ∗ stgP c cc0_stg7_0 Y)
      ⊢ iprop(((owesE c [] ∗ over c ∗ staged m c ∗ stgP c cc0_stg7_0 (outAt m c)) -∗ Kt ⟨⟩)
        -∗ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _) cc0_scratch2 cc0_scratch3) Kt) := by
  rw [cc0_body_eq_skeleton]; unfold cc0_body_skel ready staged
  iintro ⟨#Hf, HO, ⟨Hsig, HcB, HaB, ⟨HP0, HP1, HP2⟩, ⟨Hs0, Hr0⟩, ⟨Hs1, Hr1⟩, ⟨Hs2, Hr2⟩, Htk⟩, ⟨W0, W1, W2, W3, W4, W5, W6⟩, W7⟩ Hk
  rw [wp_bind]
  iapply (part1_ok m K c) $$ [HO Hsig]
  · isplitr; · iexact Hf
    unfold sigSt; isplitl [HO]; · iexact HO
    iexact Hsig
  iintro %v2 %v30 %c8 %v31 HS
  rw [wp_bind]
  iapply (part2_ok m K c _ _ _ _) $$ [HS]
  · isplitr; · iexact Hf
    iexact HS
  iintro %v59 %v64 %v65 HS
  rw [wp_bind]
  iapply (part3_ok m K c _ _ _ _) $$ [HS HcB HaB]
  · isplitr; · iexact Hf
    isplitl [HS]; · iexact HS
    isplitl [HcB]; · iexact HcB
    iexact HaB
  iintro ⟨HO, HaB, Hb⟩
  ihave Hpre := (after_bar (F := F) c) $$ [Hb Htk]
  · isplitl [Hb]; · iexact Hb
    iexact Htk
  icases Hpre with ⟨T0, T1, T2⟩
  rw [wp_bind]
  iapply (part4_ok m K c _) $$ [W0 W1 W2 HP0]
  · isplitr; · iexact Hf
    isplitl [W0]; · iexact W0
    isplitl [W1]; · iexact W1
    isplitl [W2]; · iexact W2
    iexact HP0
  iintro %u4_0 ⟨W0, W1, W2, HP0⟩
  ihave HS' := (to_sends m c 0) $$ [HO HP0 T0]
  · isplitl [HO]; · iexact HO
    isplitl [HP0]; · iexact HP0
    iexact T0
  icases HS' with ⟨HS, D0⟩
  rw [wp_bind]
  iapply (part5_ok m K c _) $$ [HS]
  · isplitr; · iexact Hf
    iexact HS
  iintro %u5_0 %u5_1 %u5_2 %u5_3 %u5_4 %u5_5 HS
  rw [wp_bind]
  iapply (part6_ok m K c _ _ _ _ _ _) $$ [HS]
  · isplitr; · iexact Hf
    iexact HS
  iintro %u6_0 %u6_1 HS
  rw [wp_bind]
  iapply (part7_ok m K c _) $$ [HS]
  · isplitr; · iexact Hf
    iexact HS
  iintro %u7_0 %u7_1 %u7_2 %u7_3 %u7_4 %u7_5 HS
  rw [wp_bind]
  iapply (part8_ok m K c _ _ _ _ _ _) $$ [HS]
  · isplitr; · iexact Hf
    iexact HS
  iintro %u8_0 %u8_1 HS
  rw [wp_bind]
  iapply (part9_ok m K c _) $$ [HS Hs0 Hr0]
  · isplitr; · iexact Hf
    isplitl [HS]; · iexact HS
    isplitl [Hs0]; · iexact Hs0
    iexact Hr0
  iintro HS
  rw [wp_bind]
  iapply (part10_ok m K c _ _) $$ [HS]
  · isplitr; · iexact Hf
    iexact HS
  iintro HS
  rw [wp_bind]
  iapply (part11_ok m K c _ _) $$ [HS]
  · isplitr; · iexact Hf
    iexact HS
  iintro HS
  rw [wp_bind]
  iapply (part12_ok m K c _) $$ [HS]
  · isplitr; · iexact Hf
    iexact HS
  iintro HS
  rw [wp_bind]
  iapply (part13_ok m K c _) $$ [HS]
  · isplitr; · iexact Hf
    iexact HS
  iintro ⟨HO, E0⟩
  rw [wp_bind]
  iapply (part14_ok m K c _) $$ [W3 W4 HP1 E0]
  · isplitr; · iexact Hf
    isplitl [W3]; · iexact W3
    isplitl [W4]; · iexact W4
    isplitl [HP1]; · iexact HP1
    iexact E0
  iintro %u14_0 %u14_1 %u14_2 %u14_3 %u14_4 ⟨W3, W4, HP1, E0⟩
  ihave L0 := (lay_done m c 0) $$ [D0 E0]
  · isplitl [D0]; · iexact D0
    iexact E0
  ihave HS' := (to_sends m c 1) $$ [HO HP1 T1]
  · isplitl [HO]; · iexact HO
    isplitl [HP1]; · iexact HP1
    iexact T1
  icases HS' with ⟨HS, D1⟩
  rw [wp_bind]
  iapply (part15_ok m K c _ _ _ _ _ _) $$ [HS]
  · isplitr; · iexact Hf
    iexact HS
  iintro %u15_0 %u15_1 HS
  rw [wp_bind]
  iapply (part16_ok m K c _) $$ [HS]
  · isplitr; · iexact Hf
    iexact HS
  iintro %u16_0 %u16_1 %u16_2 %u16_3 %u16_4 %u16_5 HS
  rw [wp_bind]
  iapply (part17_ok m K c _ _ _ _ _ _) $$ [HS]
  · isplitr; · iexact Hf
    iexact HS
  iintro %u17_0 %u17_1 HS
  rw [wp_bind]
  iapply (part18_ok m K c _) $$ [HS]
  · isplitr; · iexact Hf
    iexact HS
  iintro %u18_0 %u18_1 %u18_2 %u18_3 %u18_4 %u18_5 HS
  rw [wp_bind]
  iapply (part19_ok m K c _ _ _ _ _ _) $$ [HS Hs1 Hr1]
  · isplitr; · iexact Hf
    isplitl [HS]; · iexact HS
    isplitl [Hs1]; · iexact Hs1
    iexact Hr1
  iintro %u19_0 HS
  rw [wp_bind]
  iapply (part20_ok m K c _) $$ [HS]
  · isplitr; · iexact Hf
    iexact HS
  iintro HS
  rw [wp_bind]
  iapply (part21_ok m K c _ _) $$ [HS]
  · isplitr; · iexact Hf
    iexact HS
  iintro HS
  rw [wp_bind]
  iapply (part22_ok m K c _ _) $$ [HS]
  · isplitr; · iexact Hf
    iexact HS
  iintro HS
  rw [wp_bind]
  iapply (part23_ok m K c _) $$ [HS]
  · isplitr; · iexact Hf
    iexact HS
  iintro ⟨HO, E1⟩
  rw [wp_bind]
  iapply (part24_ok m K c ) $$ [W5 W6 E1]
  · isplitr; · iexact Hf
    isplitl [W5]; · iexact W5
    isplitl [W6]; · iexact W6
    iexact E1
  iintro ⟨W5, W6, E1⟩
  ihave L1 := (lay_done m c 1) $$ [D1 E1]
  · isplitl [D1]; · iexact D1
    iexact E1
  rw [wp_bind]
  iapply (part25_ok m K c _) $$ [HP2 HO T2]
  · isplitr; · iexact Hf
    isplitl [HP2]; · iexact HP2
    isplitl [HO]; · iexact HO
    iexact T2
  iintro %u25_0 %u25_1 %u25_2 %u25_3 %u25_4 %u25_5 ⟨D2, HS⟩
  rw [wp_bind]
  iapply (part26_ok m K c _ _ _ _ _ _) $$ [HS]
  · isplitr; · iexact Hf
    iexact HS
  iintro %u26_0 %u26_1 HS
  rw [wp_bind]
  iapply (part27_ok m K c _) $$ [HS]
  · isplitr; · iexact Hf
    iexact HS
  iintro %u27_0 %u27_1 %u27_2 %u27_3 %u27_4 %u27_5 HS
  rw [wp_bind]
  iapply (part28_ok m K c _ _ _ _ _ _) $$ [HS]
  · isplitr; · iexact Hf
    iexact HS
  iintro %u28_0 %u28_1 HS
  rw [wp_bind]
  iapply (part29_ok m K c _) $$ [HS]
  · isplitr; · iexact Hf
    iexact HS
  iintro %u29_0 HS
  rw [wp_bind]
  iapply (part30_ok m K c _ _) $$ [HS Hs2 Hr2]
  · isplitr; · iexact Hf
    isplitl [HS]; · iexact HS
    isplitl [Hs2]; · iexact Hs2
    iexact Hr2
  iintro HS
  rw [wp_bind]
  iapply (part31_ok m K c _) $$ [HS]
  · isplitr; · iexact Hf
    iexact HS
  iintro %u31_0 HS
  rw [wp_bind]
  iapply (part32_ok m K c _ _ _) $$ [HS]
  · isplitr; · iexact Hf
    iexact HS
  iintro HS
  rw [wp_bind]
  iapply (part33_ok m K c _ _) $$ [HS]
  · isplitr; · iexact Hf
    iexact HS
  iintro HS
  rw [wp_bind]
  iapply (part34_ok m K c ) $$ [HS]
  · isplitr; · iexact Hf
    iexact HS
  iintro ⟨HO, E2⟩
  ihave L2 := (lay_done m c 2) $$ [D2 E2]
  · isplitl [D2]; · iexact D2
    iexact E2
  simp only [Prog.lift, Prog.bind_op, Prog.bind_ret, Prog.pure_eq_ret]
  iapply (wload7 c _) $$ W7
  iintro W7
  rw [pay1_eq]
  iapply (wstore7 c _ _) $$ W7
  iintro W7
  rw [wp_ret]
  imod (get_over m K c) $$ [HaB L0 L1 L2] with Hov
  · isplitr; · iexact Hf
    isplitl [HaB]; · iexact HaB
    isplitl [L0]; · iexact L0
    isplitl [L1]; · iexact L1
    iexact L2
  imodintro
  iapply Hk
  isplitl [HO]; · iexact HO
  isplitl [Hov]; · iexact Hov
  isplitr [W7]
  · isplitl [W0]; · iexact W0
    isplitl [W1]; · iexact W1
    isplitl [W2]; · iexact W2
    isplitl [W3]; · iexact W3
    isplitl [W4]; · iexact W4
    isplitl [W5]; · iexact W5
    iexact W6
  iexact W7

/-! ## The obligation -/

theorem before_in (c : Dev nD) (w : Fin 8) (hw : w ≠ 7) (t : Fin cfg0.N) (d) :
    (dats m ρ 0 c).before w t d = (dats m ρ 0 c).after w t := by
  unfold Dat.before; rw [if_pos (fetch_in w hw t)]
  rw [fin_N0 t]
  fin_cases w <;> first | rfl | exact absurd rfl hw

/-- What the launch theorem hands the program, and what it takes back. -/
def bodyPre (c : Dev nD) : sProp 𝕄 :=
  iprop(Φ₀ m c ∗ (dats m ρ 0 c).owesAt () t0_0.castSucc
    ∗ (∃ d, stgP c cc0_stg0_0 ((dats m ρ 0 c).before (0 : Fin 8) t0_0 d)) ∗ (∃ d, stgP c cc0_stg1_0 ((dats m ρ 0 c).before (1 : Fin 8) t0_0 d))
    ∗ (∃ d, stgP c cc0_stg2_0 ((dats m ρ 0 c).before (2 : Fin 8) t0_0 d)) ∗ (∃ d, stgP c cc0_stg3_0 ((dats m ρ 0 c).before (3 : Fin 8) t0_0 d))
    ∗ (∃ d, stgP c cc0_stg4_0 ((dats m ρ 0 c).before (4 : Fin 8) t0_0 d)) ∗ (∃ d, stgP c cc0_stg5_0 ((dats m ρ 0 c).before (5 : Fin 8) t0_0 d))
    ∗ (∃ d, stgP c cc0_stg6_0 ((dats m ρ 0 c).before (6 : Fin 8) t0_0 d)) ∗ (∃ d, stgP c cc0_stg7_0 ((dats m ρ 0 c).before (7 : Fin 8) t0_0 d)))
def bodyPost (c : Dev nD) : sProp 𝕄 :=
  iprop(over c ∗ (dats m ρ 0 c).owesAt () t0_0.succ
    ∗ stgP c cc0_stg0_0 (stg0 m c) ∗ stgP c cc0_stg1_0 (stg1 m c) ∗ stgP c cc0_stg2_0 (stg2 m c) ∗ stgP c cc0_stg3_0 (stg3 m c)
    ∗ stgP c cc0_stg4_0 (stg4 m c) ∗ stgP c cc0_stg5_0 (stg5 m c) ∗ stgP c cc0_stg6_0 (stg6 m c) ∗ stgP c cc0_stg7_0 (outAt m c))

theorem before_stg (c : Dev nD) (w : Fin 8) (hw : w ≠ 7) {X : (cfg0.win w).block.Idx → Elt F (cfg0.win w).elt}
    (hX : X = (dats m ρ 0 c).after w t0_0) (d) : (dats m ρ 0 c).before w t0_0 d = X :=
  (before_in m ρ c w hw t0_0 d).trans hX.symm

set_option maxHeartbeats 1000000 in
theorem body_runs (c : Dev nD) : bodyPre m ρ c ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _) cc0_scratch2 cc0_scratch3)
          (fun _ => bodyPost m ρ c) := by
  unfold bodyPre Φ₀ start Dat.owesAt Pipeline.owesWithin
  simp only [before_stg m ρ c 0 (by decide) (X := stg0 m c) rfl, before_stg m ρ c 1 (by decide) (X := stg1 m c) rfl,
    before_stg m ρ c 2 (by decide) (X := stg2 m c) rfl, before_stg m ρ c 3 (by decide) (X := stg3 m c) rfl,
    before_stg m ρ c 4 (by decide) (X := stg4 m c) rfl, before_stg m ρ c 5 (by decide) (X := stg5 m c) rfl,
    before_stg m ρ c 6 (by decide) (X := stg6 m c) rfl]
  rw [show (dats m ρ 0 c).owed t0_0.castSucc = owe c (all7.map (fun j => (none, j)) ++ comm) from rfl]
  iintro ⟨⟨⟨⟨%K, #Hf, Hl⟩, Hc⟩, Hs⟩, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩⟩
  iapply (sound_body m K c _) $$ [HO Hl Hc Hs W0 W1 W2 W3 W4 W5 W6 W7]
  · isplitr; · iexact Hf
    isplitl [HO]; · (unfold owesE; iexists W; iexact HO)
    isplitl [Hl Hc Hs]
    · iapply (get_ready m c); isplitl [Hl]; · iexact Hl
      isplitl [Hc]; · iexact Hc
      iexact Hs
    isplitr [W7]
    · unfold staged
      isplitl [W0]; · iexact W0
      isplitl [W1]; · iexact W1
      isplitl [W2]; · iexact W2
      isplitl [W3]; · iexact W3
      isplitl [W4]; · iexact W4
      isplitl [W5]; · iexact W5
      iexact W6
    iexact W7
  unfold bodyPost Dat.owesAt Pipeline.owesWithin owesE staged
  rw [show (dats m ρ 0 c).owed t0_0.succ = owe c [] from rfl]
  iintro ⟨⟨%W', HO⟩, Hov, ⟨W0, W1, W2, W3, W4, W5, W6⟩, W7⟩
  isplitl [Hov]; · iexact Hov
  isplitl [HO]
  · iexists W'
    isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

set_option maxHeartbeats 1000000 in
set_option maxRecDepth 8000 in
/-- The launch theorem's obligation of device `c`'s program. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_runs m ρ c

end Cert.AllGather

end
-- ==== Proof.Launch.lean ====
/-
The launch: the protocol's cells and duties made and dealt to the devices, and the run of all eight programs.
-/
module

public import proofs.«01_k».proof.Proof.Body
public import Idealize.ShloMosaic.Lib.Pipeline.CollectiveSegs

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cx → ℕ) (ρ : Dev nD → PrngReg)

/-! ## The cells and their tokens -/

/-- The kernel's own semaphores: a send and a receive one per layer. -/
abbrev osem : Fin 6 → SemLoc sig := fun
  | 0 => .dma (sendS 0) | 1 => .dma (sendS 1) | 2 => .dma (sendS 2) | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]
def allCells : Finset (GSem nD τ sig) := Finset.univ.map ⟨kcell, kcell_injective⟩

/-- Every cell has seven duties in its one round. -/
abbrev tokOf (p : (Dev nD × Cx) × Fin 7) : GSem nD τ sig × ℕ × Fin 7 := (kcell p.1, 0, p.2)
theorem tokOf_injective : Function.Injective tokOf := by
  rintro ⟨cx, j⟩ ⟨cx', j'⟩ h
  have h1 : cx = cx' := kcell_injective (congrArg Prod.fst h)
  have h2 : j = j' := congrArg (fun x : GSem nD τ sig × ℕ × Fin 7 => x.2.2) h
  rw [h1, h2]
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duties of device `c`'s own cells. -/
def toks (c : Dev nD) : sProp 𝕄 :=
  bigSep Finset.univ fun x : Cx => bigSep Finset.univ fun j : Fin 7 => dutyTok ER (cell c x) 0 j

/-- What the launch deals device `c`; -/
def G (c : Dev nD) : sProp 𝕄 :=
  iprop((bigSep Finset.univ fun x : Cx => roundState ER (gRd m) (cell c x) 0)
    ∗ (bigSep Finset.univ fun x : Cx => iprop(atPos ER (cell c x) 0 ∅ 0 ∗ reached ER (cell c x) 0)) ∗ toks c)

/-- every invariant at the names chosen, every first round open; -/
def records : sProp 𝕄 :=
  iprop((bigSep Finset.univ fun cx : Dev nD × Cx => cellInv ER (gRd m) (K cx) (kcell cx))
    ∗ bigSep Finset.univ fun cx : Dev nD × Cx => reached ER (kcell cx) 0)

instance records_persistent : BI.Persistent (records m K) := by unfold records; infer_instance

/-- and what the devices make of it together. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cx => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (gRd m) allCells allToks) $$ HX with ⟨Hst, Hr, Hat, Htok⟩
  imodintro
  ihave Hst' := (Entails.of_eq (hX fun g => roundState ER (gRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (cell c (cSend 0)) 0 ∗ semVal (cell c (cSend 1)) 0 ∗ semVal (cell c (cSend 2)) 0
      ∗ semVal (cell c (cRecv 0)) 0 ∗ semVal (cell c (cRecv 1)) 0 ∗ semVal (cell c (cRecv 2)) 0) := by
  rw [Pipeline.ownSems0_eq_of_list c osem [0, 1, 2, 3, 4, 5] (by decide) (by decide)]; rfl
theorem unscopedSems0_eq (c : Dev nD) : (unscopedSems0 c : sProp 𝕄) = semVal (cell c cBar) 0 := by
  unfold unscopedSems0; rw [bigSep_eq_bigSepL_of_eq [SemLoc.reg barS] (by decide) (by decide)]; rfl

/-- The launch's semaphores, the barrier's among them, are the seven cells. -/
theorem sems0_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun x : Cx => semVal (cell c x) 0 := by
  rw [ownSems0_eq, unscopedSems0_eq, cells7]

theorem invs_alloc (c : Dev nD) :
    iprop((bigSep Finset.univ fun x : Cx => semVal (cell c x) 0) ∗ bigSep Finset.univ fun x : Cx => roundState ER (gRd m) (cell c x) 0)
      ⊢ (|={Set.univ}=> bigSep Finset.univ fun x => iprop(∃ κ : ℕ, cellInv ER (gRd m) κ (cell c x)) : sProp 𝕄) := by
  rw [← bigSep_sep']
  exact (bigSep_mono fun x _ => (Rounds.body_intro ER (gRd m) (cell c x)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (gRd m) κ (cell c x)))
          ∗ (bigSep Finset.univ fun x => iprop(atPos ER (cell c x) 0 ∅ 0 ∗ reached ER (cell c x) 0)) ∗ toks c) := by
  unfold G
  iintro ⟨Hos, Hus, Hst, Hat, Htok⟩
  ihave Hv := (Entails.of_eq (sems0_eq (F := F) c)) $$ [Hos Hus]
  · isplitl [Hus] <;> iassumption
  imod (invs_alloc m c) $$ [Hv Hst] with Hinv
  · isplitl [Hv] <;> iassumption
  imodintro
  isplitl [Hinv]; · iexact Hinv
  isplitl [Hat]; · iexact Hat
  iexact Htok

/-! ## The duties dealt to those who pay them -/

theorem bar_around : (bigSep Finset.univ fun c : Dev nD => bigSep Finset.univ fun j : Fin 7 => (dutyTok ER (cell c cBar) 0 j : sProp 𝕄))
    = bigSep Finset.univ fun c : Dev nD => barToks c := by
  unfold barToks
  rw [bigSep_univ_comm, bigSep_univ_comm (fun (c : Dev nD) (j : Fin 7) => (dutyTok ER (cell (pl c j) cBar) 0 j.rev : sProp 𝕄)),
    bigSep_univ_equiv Fin.revPerm]
  exact bigSep_congr fun j _ => bigSep_univ_equiv (around j) (fun c : Dev nD => (dutyTok ER (cell c cBar) 0 j.rev : sProp 𝕄))
theorem recv_around (k : Fin 3) : (bigSep Finset.univ fun c : Dev nD => bigSep Finset.univ fun j : Fin 7 => (dutyTok ER (cell c (cRecv k)) 0 j : sProp 𝕄))
    = bigSep Finset.univ fun c : Dev nD => bigSep Finset.univ fun j : Fin 7 => dutyTok ER (cell (pl c j) (cRecv k)) 0 j := by
  rw [bigSep_univ_comm, bigSep_univ_comm (fun (c : Dev nD) (j : Fin 7) => (dutyTok ER (cell (pl c j) (cRecv k)) 0 j : sProp 𝕄))]
  exact bigSep_congr fun j _ => bigSep_univ_equiv (around j) (fun c : Dev nD => (dutyTok ER (cell c (cRecv k)) 0 j : sProp 𝕄))

theorem toks_around : (bigSep Finset.univ fun c : Dev nD => (toks c : sProp 𝕄))
    ⊢ bigSep Finset.univ fun c : Dev nD => iprop(barToks c ∗ bigSep Finset.univ fun k : Fin 3 => layToks c k) := by
  unfold toks layToks
  simp only [cells7, three, bigSep_sep']
  rw [bar_around, recv_around, recv_around, recv_around]
  iintro ⟨B, S0, S1, S2, R0, R1, R2⟩
  isplitl [B]; · iexact B
  isplitl [S0 S1 S2]
  · isplitl [S0]; · iexact S0
    isplitl [S1]; · iexact S1
    iexact S2
  isplitl [R0]; · iexact R0
  isplitl [R1]; · iexact R1
  iexact R2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (c : Dev nD) : iprop(records m K ∗ linear c) ⊢ G' m c := by
  unfold G'
  iintro H; iexists K; iexact H

theorem linear_intro (c : Dev nD) :
    iprop((bigSep Finset.univ fun x : Cx => (atPos ER (cell c x) 0 ∅ 0 : sProp 𝕄)) ∗ barToks c ∗ bigSep Finset.univ fun k : Fin 3 => layToks c k) ⊢ linear (F := F) c := by
  unfold linear
  iintro H; iexact H

theorem linear_all :
    iprop((bigSep Finset.univ fun c : Dev nD => bigSep Finset.univ fun x : Cx => (atPos ER (cell c x) 0 ∅ 0 : sProp 𝕄))
      ∗ bigSep Finset.univ fun c : Dev nD => iprop(barToks c ∗ bigSep Finset.univ fun k : Fin 3 => layToks c k))
      ⊢ bigSep Finset.univ fun c : Dev nD => linear (F := F) c := by
  rw [← bigSep_sep']
  exact bigSep_mono fun c _ => linear_intro c

theorem regroup :
    (bigSep Finset.univ fun c : Dev nD => iprop((bigSep Finset.univ fun x => iprop(∃ κ : ℕ, cellInv ER (gRd m) κ (cell c x)))
          ∗ (bigSep Finset.univ fun x => iprop(atPos ER (cell c x) 0 ∅ 0 ∗ reached ER (cell c x) 0)) ∗ toks c) : sProp 𝕄)
      ⊢ bigSep Finset.univ (G' m) := by
  rw [bigSep_sep', bigSep_sep', ← bigSep_univ_prod (fun cx : Dev nD × Cx => iprop(∃ κ : ℕ, cellInv ER (gRd m) κ (kcell cx))),
    bigSep_congr (s := Finset.univ) (fun (c : Dev nD) _ => bigSep_sep' Finset.univ (fun x : Cx => (atPos ER (cell c x) 0 ∅ 0 : sProp 𝕄)) (fun x => reached ER (cell c x) 0)),
    bigSep_sep', ← bigSep_univ_prod (fun cx : Dev nD × Cx => (reached ER (kcell cx) 0 : sProp 𝕄))]
  iintro ⟨HI, ⟨Hat, #HR⟩, Htok⟩
  ihave HK := (BI.bigSep_exists_pi Finset.univ (fun (cx : Dev nD × Cx) (κ : ℕ) => (cellInv ER (gRd m) κ (kcell cx) : sProp 𝕄))) $$ HI
  icases HK with ⟨%K, #HI⟩
  ihave Htk := (toks_around (F := F)) $$ Htok
  iapply (with_persistent (R := records m K) fun c _ => G'_intro m K c)
  isplitr
  · unfold records; isplitl; · iexact HI
    iexact HR
  iapply (linear_all (F := F))
  isplitl [Hat]; · iexact Hat
  iexact Htk

/-- All the devices' semaphores at once: every cell becomes an invariant, every duty goes to its payer. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all the devices together owe one cell: its amount for each item of its kind. -/
theorem owed_sum (c : Dev nD) (y : Cx) : ∀ l : List Item,
    (∑ d : Dev nD, owe d l (cell c y) ()) = (l.countP fun x => decide (ixc x.1 = y)) * camt y
  | [] => by
      rw [List.countP_nil, Nat.zero_mul]
      exact Finset.sum_eq_zero fun d _ => rfl
  | x :: l => by
      have h1 (d : Dev nD) : owe d (x :: l) (cell c y) () = owe d l (cell c y) () + (if d = mi c x.2 then (if ixc x.1 = y then camt y else 0) else 0) := by
        show (owe d l + tallyAt (icell d x) () (camt (ixc x.1))) (cell c y) () = _
        rw [Pi.add_apply, Finsupp.add_apply, tallyAt_apply]
        congr 1
        by_cases hd : d = mi c x.2
        · subst hd
          rw [if_pos rfl]
          by_cases hy : ixc x.1 = y
          · subst hy
            rw [if_pos rfl, if_pos]
            show cell c (ixc x.1) = cell (pl (mi c x.2) x.2) (ixc x.1) ∧ () = ()
            rw [pl_mi]; exact ⟨rfl, rfl⟩
          · rw [if_neg hy, if_neg]
            rintro ⟨h, -⟩
            exact hy (csem_injective (congrArg Prod.snd h)).symm
        · rw [if_neg hd, if_neg]
          rintro ⟨h, -⟩
          have h2 : c = pl d x.2 := congrArg (fun g : GSem nD τ sig => g.1.1) h
          exact hd (by rw [h2, mi_pl])
      rw [Finset.sum_congr rfl fun d _ => h1 d, Finset.sum_add_distrib, owed_sum c y l, Finset.sum_ite_eq' Finset.univ (mi c x.2) fun _ => _,
        if_pos (Finset.mem_univ _), List.countP_cons]
      by_cases hy : ixc x.1 = y
      · rw [if_pos hy, if_pos (decide_eq_true hy), Nat.add_mul, Nat.one_mul]
      · rw [if_neg hy, if_neg (fun h => hy (of_decide_eq_true h)), Nat.add_zero, Nat.add_zero]

theorem launch_cell (c : Dev nD) (y : Cx) (n : ℕ) (hn : (items.countP fun x => decide (ixc x.1 = y)) = n) :
    tallyOn (cell c y) (launchCredit (Pipeline.owing O₀) 0 (cell c y)) = (tallyAt (cell c y) () (n * camt y) : CellTallies nD τ sig Unit) := by
  unfold tallyAt; refine congrArg _ (Finsupp.ext fun u => ?_); cases u
  rw [Pipeline.launchCredit_owing, Finsupp.single_eq_same, ← hn]
  exact owed_sum c y items

def allSems : Finset (SemLoc sig) := Finset.univ.map ⟨csem, csem_injective⟩

theorem credit_intro (c : Dev nD) : (Pipeline.launchCred O₀ c : sProp 𝕄) ⊢ credit c := by
  unfold Pipeline.launchCred credit
  rw [bigSep_sdiff_split (Finset.subset_univ allSems), show bigSep allSems _ = _ from bigSep_map _, cells7, three]
  refine (sep_elim_left).trans ?_
  show iprop(cred (tallyOn (cell c cBar) (launchCredit (Pipeline.owing O₀) 0 (cell c cBar))) ∗ _ ∗ _ ∗ _
    ∗ cred (tallyOn (cell c (cRecv 0)) (launchCredit (Pipeline.owing O₀) 0 (cell c (cRecv 0))))
    ∗ cred (tallyOn (cell c (cRecv 1)) (launchCredit (Pipeline.owing O₀) 0 (cell c (cRecv 1))))
    ∗ cred (tallyOn (cell c (cRecv 2)) (launchCredit (Pipeline.owing O₀) 0 (cell c (cRecv 2))))) ⊢ _
  rw [launch_cell c cBar 7 (by decide), launch_cell c (cRecv 0) 7 (by decide), launch_cell c (cRecv 1) 7 (by decide), launch_cell c (cRecv 2) 7 (by decide)]
  iintro ⟨B, -, -, -, R0, R1, R2⟩
  isplitl [B]; · iexact B
  isplitl [R0]; · iexact R0
  isplitl [R1]; · iexact R1
  iexact R2

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, #Hlev, Hcr, -, ⟨%K, #HR, Hl⟩⟩
  ihave Hc := (credit_intro (F := F) c) $$ Hcr
  imodintro
  isplitl
  · isplitr [Hc]
    · iexists K
      isplitr
      · unfold facts records; isplitr; · iexact HR
        iexact Hlev
      iexact Hl
    iexact Hc
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch partW gathW
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = over c from rfl, scopedRest0_eq]
  unfold over partW gathW
  rw [← sems0_eq]
  iintro ⟨Hr, Hu, Ho⟩
  isplitl [Hu]; · iexact Hu
  isplitl [Ho]; · iexact Ho
  iexact Hr

theorem items_above : ∀ x ∈ items, 0 < clev (ixc x.1) := by decide

theorem mayWait_stage (c : Dev nD) (sm : SemLoc sig) (h : which sm = none) (O : CellTallies nD τ sig Unit) (hO : O = O₀ c ∨ O = 0) :
    (levAts L lv : sProp 𝕄) ⊢ MayWait (c : Thread nD τ) sm () O := by
  have hl : lv ((c : Thread nD τ), sm) () = 0 := by unfold lv; rw [h]
  rcases hO with rfl | rfl
  · exact mayWait_below c sm 0 hl items items_above
  · exact mayWait_below c sm 0 hl [] (fun _ h => absurd h List.not_mem_nil)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values: every weakly fair execution of the eight devices' programs
    ends, with each window's array at the contents computed above and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds at the end what it held. -/
theorem finalA_in (c : Dev nD) (w : Fin 8) (hw : w ≠ 7) : finalA m ρ c w = m ((cfg0.win w).arr.view.loc (c : Thread nD τ)) :=
  (dats (F := F) m ρ 0 c).arrAt_in w (by revert hw; revert w; decide) _

end Cert.AllGather

end
-- ==== Proof.Frames.lean ====
/-
Every program runs, ends with its arguments as they were and every semaphore counter at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

noncomputable section

namespace Cert.AllGather

open Idealize.ShloMosaic Idealize.SL.Sem

variable {F : FTy → Type} [FloatOps F]

/-- The seven argument arrays of `m` stand in the memory of `r`, on every device. -/
def Kept (m : (ℓ : Loc KernelIdeal.nD KernelIdeal.τ KernelIdeal.sig) → Buf (Elt F) ℓ) (s : MemSt KernelIdeal.nD KernelIdeal.τ KernelIdeal.sig (Elt F)) (c : Dev KernelIdeal.nD) : Prop :=
  s.mem ((c.tc : Thread KernelIdeal.nD KernelIdeal.τ).loc KernelIdeal.main_arg0) = m ((c.tc : Thread KernelIdeal.nD KernelIdeal.τ).loc KernelIdeal.main_arg0)
  ∧ s.mem ((c.tc : Thread KernelIdeal.nD KernelIdeal.τ).loc KernelIdeal.main_arg1) = m ((c.tc : Thread KernelIdeal.nD KernelIdeal.τ).loc KernelIdeal.main_arg1)
  ∧ s.mem ((c.tc : Thread KernelIdeal.nD KernelIdeal.τ).loc KernelIdeal.main_arg2) = m ((c.tc : Thread KernelIdeal.nD KernelIdeal.τ).loc KernelIdeal.main_arg2)
  ∧ s.mem ((c.tc : Thread KernelIdeal.nD KernelIdeal.τ).loc KernelIdeal.main_arg3) = m ((c.tc : Thread KernelIdeal.nD KernelIdeal.τ).loc KernelIdeal.main_arg3)
  ∧ s.mem ((c.tc : Thread KernelIdeal.nD KernelIdeal.τ).loc KernelIdeal.main_arg4) = m ((c.tc : Thread KernelIdeal.nD KernelIdeal.τ).loc KernelIdeal.main_arg4)
  ∧ s.mem ((c.tc : Thread KernelIdeal.nD KernelIdeal.τ).loc KernelIdeal.main_arg5) = m ((c.tc : Thread KernelIdeal.nD KernelIdeal.τ).loc KernelIdeal.main_arg5)
  ∧ s.mem ((c.tc : Thread KernelIdeal.nD KernelIdeal.τ).loc KernelIdeal.main_arg6) = m ((c.tc : Thread KernelIdeal.nD KernelIdeal.τ).loc KernelIdeal.main_arg6)

variable (m : (ℓ : Loc KernelIdeal.nD KernelIdeal.τ KernelIdeal.sig) → Buf (Elt F) ℓ) (ρ : Dev KernelIdeal.nD → PrngReg)

/-- An end state of the run has the arguments as they were. -/
theorem kept_of {r : PUnit × MemSt KernelIdeal.nD KernelIdeal.τ KernelIdeal.sig (Elt F)} (h : QC m ρ r) (c : Dev KernelIdeal.nD) : Kept m r.2 c :=
  ⟨(h c 0).trans (finalA_in m ρ c 0 (by decide)), (h c 1).trans (finalA_in m ρ c 1 (by decide)), (h c 2).trans (finalA_in m ρ c 2 (by decide)),
    (h c 3).trans (finalA_in m ρ c 3 (by decide)), (h c 4).trans (finalA_in m ρ c 4 (by decide)), (h c 5).trans (finalA_in m ρ c 5 (by decide)),
    (h c 6).trans (finalA_in m ρ c 6 (by decide))⟩

/-- The two prints of the kernel have one body, -/
theorem body_same : Kernel.cc0_body (F := F) = KernelIdeal.cc0_body (F := F) := rfl

/-- hence the same body table, -/
theorem bodies_same : Kernel.defs₀ (F := F) = KernelIdeal.defs₀ (F := F) := by
  unfold Kernel.defs₀ KernelIdeal.defs₀
  refine congrArg Defs.onTc (funext fun ℓ => ?_)
  obtain rfl : ℓ = (0 : Fin 1) := Subsingleton.elim _ _
  refine funext fun a => ?_
  obtain ⟨t, s⟩ := a
  exact congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _

/-- and with it the table of the whole program. -/
theorem defs_same : Kernel.defs (F := F) = KernelIdeal.defs (F := F) :=
  congrArg (Pipeline.defs (KernelIdeal.pcfgs (F := F))) bodies_same

/-- The run at any float values: it ends, the arguments as they were, every counter at zero. -/
theorem frame_run : θ_run (KernelIdeal.defs (F := F)) (onTc (τ := KernelIdeal.τ) (KernelIdeal.main (F := F))) ⟨m, fun _ => 0, ρ⟩
    (fun r => (∀ c, Kept m r.2 c) ∧ r.2.sem = fun _ => 0) :=
  (θ_run KernelIdeal.defs _ _).mono (fun _ h => ⟨fun c => kept_of m ρ h.1 c, h.2⟩) (run_main m ρ)

/-- The kernel at its own number formats ends, with its arguments as they were and every counter at zero. -/
theorem frame_kernel : Cert.quiescent_Kernel := fun m ρ _ =>
  Eq.mpr (congrArg (fun d => θ_run d (onTc (τ := KernelIdeal.τ) (KernelIdeal.main (F := Bits))) ⟨m, fun _ => 0, ρ⟩
    (fun r => (∀ c, Kept m r.2 c) ∧ r.2.sem = fun _ => 0)) (defs_same (F := Bits))) (frame_run (F := Bits) m ρ)

/-- So does the kernel over the extended reals; -/
theorem frame_kernelIdeal : Cert.quiescent_KernelIdeal := fun m ρ _ => frame_run (F := Ideal) m ρ

/-- and the reference, which has no semaphores at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AllGather

end
-- ==== Proof.Math.lean ====
/-
What one layer computes over the extended reals: the devices' partial sums add up to the whole product.
-/
module

public import proofs.«01_k».proof.Proof.Vals
public import proofs.«01_k».proof.Proof.Gen.ReferenceIdeal
public import Idealize.ShloMosaic.PureOps.Ideal
public import Idealize.ShloMosaic.PureOps.Ideal.Laws
public import Idealize.ShloMosaic.Lib.Layout
public import Idealize.ShloMosaic.Lib.MatmulPlain
public import Idealize.ShloMosaic.Lib.StackMember

@[expose] public section

noncomputable section

namespace Cert.AllGather

open Idealize.ShloMosaic Idealize.ShloMosaic.ValueIdx Idealize.SL.Sem
open scoped BigOperators

/-! ## The reference's layer -/

/-- The reference's hidden activations, -/
def refHid (X : FVec Ideal ⟨2, ![256, 256]⟩ .f32) (W1 : FVec Ideal ⟨2, ![256, 4096]⟩ .f32) : FVec Ideal ⟨2, ![256, 4096]⟩ .f32 :=
  maximumf (Host.dotGeneral ReferenceIdeal.dot_S256x256_S256x4096_S256x4096_1_0_0_1_n_n none X W1)
    (broadcastInDim ReferenceIdeal.S256x4096 ![] ReferenceIdeal.Gen.bcast_S_S256x4096 (constant ReferenceIdeal.S_ .f32 0x00000000#32))

/-- and one layer of it. -/
def refLay (X : FVec Ideal ⟨2, ![256, 256]⟩ .f32) (W1 : FVec Ideal ⟨2, ![256, 4096]⟩ .f32) (W2 : FVec Ideal ⟨2, ![4096, 256]⟩ .f32) : FVec Ideal ⟨2, ![256, 256]⟩ .f32 :=
  Host.dotGeneral ReferenceIdeal.dot_S256x4096_S4096x256_S256x256_1_0_0_1_n_n none (refHid X W1) W2

/-- A hidden entry: the positive part of a row of the input times a column of the first weights. -/
theorem refHid_apply (X : FVec Ideal ⟨2, ![256, 256]⟩ .f32) (W1 : FVec Ideal ⟨2, ![256, 4096]⟩ .f32) (r : Fin 256) (l : Fin 4096) :
    refHid X W1 (ix2 r l) = max (∑ k : Fin 256, X (ix2 r k) * W1 (ix2 k l)) 0 := by
  show max (Host.dotGeneral (DotDims.plain 256 256 4096) none X W1 (ix2 r l)) (Ideal.ofBits .f32 0x00000000#32) = _
  rw [StackMember.dotGeneral_plain_apply, Ideal.ofBits_zero_f32]

/-- An entry of the layer: the hidden row times a column of the second weights. -/
theorem refLay_apply (X : FVec Ideal ⟨2, ![256, 256]⟩ .f32) (W1 : FVec Ideal ⟨2, ![256, 4096]⟩ .f32) (W2 : FVec Ideal ⟨2, ![4096, 256]⟩ .f32) (r q : Fin 256) :
    refLay X W1 W2 (ix2 r q) = ∑ l : Fin 4096, refHid X W1 (ix2 r l) * W2 (ix2 l q) :=
  StackMember.dotGeneral_plain_apply none (refHid X W1) W2 r q

/-! ## One device's part of it -/

/-- An entry of one device's partial sum, over its own 512 hidden columns. -/
theorem lay_apply (X : FVec Ideal ⟨2, ![256, 256]⟩ .bf16) (w1 : FVec Ideal ⟨2, ![256, 512]⟩ .bf16) (w2 : FVec Ideal ⟨2, ![512, 256]⟩ .bf16) (r q : Fin 256) :
    lay (F := Ideal) X w1 w2 (ix2 r q) = ∑ l : Fin 512, max (∑ k : Fin 256, X (ix2 r k) * w1 (ix2 k l)) 0 * w2 (ix2 l q) := by
  have hin (l : Fin 512) : FloatOps.matmul (DotDims.plain 256 256 512) none X w1 (constant ⟨2, ![256, 512]⟩ .f32 0x00000000#32) (ix2 r l)
      = ∑ k : Fin 256, X (ix2 r k) * w1 (ix2 k l) := by
    rw [Ideal.matmul_plain_apply]
    show Ideal.ofBits .f32 0x00000000#32 + _ = _
    rw [Ideal.ofBits_zero_f32, zero_add]
  unfold lay
  rw [shapeCast_self, shapeCast_self]
  refine (Ideal.matmul_plain_apply (φ₁ := .bf16) (φ₂ := .bf16) none _ w2 (constant ⟨2, ![256, 256]⟩ .f32 0x00000000#32) r q).trans ?_
  show Ideal.ofBits .f32 0x00000000#32 + _ = _
  rw [Ideal.ofBits_zero_f32, zero_add]
  refine Finset.sum_congr rfl fun l _ => ?_
  show max (FloatOps.matmul (DotDims.plain 256 256 512) none X w1 (constant ⟨2, ![256, 512]⟩ .f32 0x00000000#32) (ix2 r l)) (Ideal.ofBits .f32 0x00000000#32) * w2 (ix2 l q) = _
  rw [hin, Ideal.ofBits_zero_f32]

/-- Summing over the 4096 hidden columns is summing over the devices and over each one's 512. -/
theorem sum_blocks (f : Fin 4096 → EReal) :
    ∑ l : Fin 4096, f l = ∑ c : Fin 8, ∑ l : Fin 512, f ⟨c.val * 512 + l.val, by omega⟩ := by
  rw [← Fintype.sum_prod_type', ← Equiv.sum_comp (finProdFinEquiv (m := 8) (n := 512))]
  refine Finset.sum_congr rfl fun p _ => congrArg f (Fin.ext ?_)
  show p.2.val + 512 * p.1.val = p.1.val * 512 + p.2.val
  omega

/-- Column `l` of device `c`'s block of the first weights is column `512 c + l` of the whole, -/
theorem block_cols (W : FVec Ideal ⟨2, ![256, 4096]⟩ .f32) (c : Fin 8) (k : Fin 256) (l : Fin 512) :
    Layout.block ⟨2, ![256, 512]⟩ ⟨2, ![256, 4096]⟩ 1 8 c W (by decide) (ix2 k l) = W (ix2 k ⟨c.val * 512 + l.val, by omega⟩) := by
  rw [Layout.block_apply]
  refine congrArg W (funext fun a => Fin.ext ?_)
  match a with
  | ⟨0, _⟩ => rfl
  | ⟨1, _⟩ => rfl

/-- and row `l` of its block of the second weights is row `512 c + l` of the whole. -/
theorem block_rows (W : FVec Ideal ⟨2, ![4096, 256]⟩ .f32) (c : Fin 8) (l : Fin 512) (q : Fin 256) :
    Layout.block ⟨2, ![512, 256]⟩ ⟨2, ![4096, 256]⟩ 0 8 c W (by decide) (ix2 l q) = W (ix2 ⟨c.val * 512 + l.val, by omega⟩ q) := by
  rw [Layout.block_apply]
  refine congrArg W (funext fun a => Fin.ext ?_)
  match a with
  | ⟨0, _⟩ => rfl
  | ⟨1, _⟩ => rfl

/-- The eight devices' partial sums, each from its own blocks of the weights, add up to the reference's layer. -/
theorem sum_lay (X : FVec Ideal ⟨2, ![256, 256]⟩ .f32) (W1 : FVec Ideal ⟨2, ![256, 4096]⟩ .f32) (W2 : FVec Ideal ⟨2, ![4096, 256]⟩ .f32) (i : (⟨2, ![256, 256]⟩ : Shape).Idx) :
    ∑ c : Fin 8, lay (F := Ideal) X (Layout.block ⟨2, ![256, 512]⟩ ⟨2, ![256, 4096]⟩ 1 8 c W1) (Layout.block ⟨2, ![512, 256]⟩ ⟨2, ![4096, 256]⟩ 0 8 c W2) i
      = refLay X W1 W2 i := by
  obtain ⟨r, q, rfl⟩ : ∃ a b, i = ix2 a b := ⟨_, _, eq_ix2 i⟩
  rw [refLay_apply, sum_blocks]
  refine Finset.sum_congr rfl fun c _ => (lay_apply _ _ _ r q).trans (Finset.sum_congr rfl fun l _ => ?_)
  rw [refHid_apply, block_rows, Finset.sum_congr rfl fun k _ => by rw [block_cols]]

/-! ## The sum of the arrivals -/

/-- A device and the seven before it are all eight. -/
theorem everyone (c : Dev KernelIdeal.nD) : (Finset.univ : Finset (Dev KernelIdeal.nD)) = insert c (Finset.univ.image (mi c)) := by
  revert c; decide

theorem mi_injective (c : Dev KernelIdeal.nD) : Function.Injective (mi c) := by
  revert c; decide

theorem not_mi (c : Dev KernelIdeal.nD) : c ∉ Finset.univ.image (mi c) := by
  revert c; decide

/-- One's own partial sum and the seven arrivals add up to the sum over all devices. -/
theorem accum_all (p : Dev KernelIdeal.nD → FVec Ideal ⟨2, ![256, 256]⟩ .f32) (c : Dev KernelIdeal.nD) (i : (⟨2, ![256, 256]⟩ : Shape).Idx) :
    accum (F := Ideal) (p c) (fun j => p (mi c j)) i = ∑ d : Dev KernelIdeal.nD, p d i := by
  rw [everyone c, Finset.sum_insert (not_mi c), Finset.sum_image (fun a _ b _ h => mi_injective c h), Fin.sum_univ_seven]
  show p c i + p (mi c 0) i + p (mi c 1) i + p (mi c 2) i + p (mi c 3) i + p (mi c 4) i + p (mi c 5) i + p (mi c 6) i = _
  simp only [add_assoc]

end Cert.AllGather

end
-- ==== Proof.Value.lean ====
/-
The result over the extended reals: layer by layer every device's total is the reference's, so the last one is its result.
-/
module

public import proofs.«01_k».proof.Proof.Math
public import proofs.«01_k».proof.Proof.Frames

@[expose] public section

noncomputable section

namespace Cert.AllGather

open Idealize.ShloMosaic Idealize.ShloMosaic.ValueIdx Idealize.SL.Sem Idealize.ShloMosaic.TcCoe
open Idealize.ShloMosaic.Pipeline (Dat Cfg Window)
open scoped BigOperators

/-! ## The windows are the whole arrays -/

section Windows

variable {F : FTy → Type} [FloatOps F]
variable (m : (ℓ : Loc KernelIdeal.nD KernelIdeal.τ KernelIdeal.sig) → Buf (Elt F) ℓ) (ρ : Dev KernelIdeal.nD → PrngReg)

/-- The block of a window that is a whole array, read, is the array. -/
theorem read_whole_block (b : Ref KernelIdeal.sig .tc) {i : Fin b.ty.shape.rank → Nat} (hi : ∀ a, i a = 0)
    (hb : ∀ a, (fun a => i a * b.ty.shape.size a) a + b.ty.shape.size a ≤ b.ty.shape.size a) (f : b.ty.Contents (Elt F)) :
    ((Memref.whole b).access (Rect.unit (fun a => i a * b.ty.shape.size a) b.ty.shape.size hb)).read (Elt F) f = f :=
  Memref.read_access_unit_zero (Elt F) b (funext fun a => by rw [hi a, Nat.zero_mul]) hb f

/-- The block at the origin fits. -/
theorem whole_fits (b : Ref KernelIdeal.sig .tc) (a : Fin b.ty.shape.rank) :
    (fun a => (fun _ : Fin b.ty.shape.rank => 0) a * b.ty.shape.size a) a + b.ty.shape.size a ≤ b.ty.shape.size a :=
  le_of_eq (by simp)

/-- What each input window brings in is the argument itself. -/
theorem stg0_eq (c : Dev KernelIdeal.nD) : stg0 m c = m ((c.tc : Thread KernelIdeal.nD KernelIdeal.τ).loc KernelIdeal.main_arg0) :=
  read_whole_block (F := F) KernelIdeal.main_arg0 (i := fun _ => 0) (fun _ => rfl) (whole_fits _) _
theorem stg1_eq (c : Dev KernelIdeal.nD) : stg1 m c = m ((c.tc : Thread KernelIdeal.nD KernelIdeal.τ).loc KernelIdeal.main_arg1) :=
  read_whole_block (F := F) KernelIdeal.main_arg1 (i := fun _ => 0) (fun _ => rfl) (whole_fits _) _
theorem stg2_eq (c : Dev KernelIdeal.nD) : stg2 m c = m ((c.tc : Thread KernelIdeal.nD KernelIdeal.τ).loc KernelIdeal.main_arg2) :=
  read_whole_block (F := F) KernelIdeal.main_arg2 (i := fun _ => 0) (fun _ => rfl) (whole_fits _) _
theorem stg3_eq (c : Dev KernelIdeal.nD) : stg3 m c = m ((c.tc : Thread KernelIdeal.nD KernelIdeal.τ).loc KernelIdeal.main_arg3) :=
  read_whole_block (F := F) KernelIdeal.main_arg3 (i := fun _ => 0) (fun _ => rfl) (whole_fits _) _
theorem stg4_eq (c : Dev KernelIdeal.nD) : stg4 m c = m ((c.tc : Thread KernelIdeal.nD KernelIdeal.τ).loc KernelIdeal.main_arg4) :=
  read_whole_block (F := F) KernelIdeal.main_arg4 (i := fun _ => 0) (fun _ => rfl) (whole_fits _) _
theorem stg5_eq (c : Dev KernelIdeal.nD) : stg5 m c = m ((c.tc : Thread KernelIdeal.nD KernelIdeal.τ).loc KernelIdeal.main_arg5) :=
  read_whole_block (F := F) KernelIdeal.main_arg5 (i := fun _ => 0) (fun _ => rfl) (whole_fits _) _
theorem stg6_eq (c : Dev KernelIdeal.nD) : stg6 m c = m ((c.tc : Thread KernelIdeal.nD KernelIdeal.τ).loc KernelIdeal.main_arg6) :=
  read_whole_block (F := F) KernelIdeal.main_arg6 (i := fun _ => 0) (fun _ => rfl) (whole_fits _) _

/-- The result array at the end of the run holds what the body computed. -/
theorem finalA_out (c : Dev KernelIdeal.nD) : finalA m ρ c 7 = outAt m c := by
  have h : (KernelIdeal.win0_7.blk (0 : Fin 1)).view.read (Elt F) (finalA m ρ c 7) = outAt m c := by
    unfold finalA
    rw [show KernelIdeal.cfg0.N = ((0 : Fin 1) : Fin KernelIdeal.cfg0.N).val + 1 from rfl, (dats m ρ 0 c).arrAt_succ (7 : Fin 8) (0 : Fin 1)]
    rw [show (KernelIdeal.cfg0.win (7 : Fin 8)).flush (0 : Fin 1) = true from by decide, if_pos rfl]
    exact View.read_write_univ _ _
  exact (read_whole_block (F := F) KernelIdeal.main_v1 (i := fun _ => 0) (fun _ => rfl) (whole_fits _) _).symm.trans h

end Windows

/-! ## Layer by layer -/

section Layers

variable (m : (ℓ : Loc KernelIdeal.nD KernelIdeal.τ KernelIdeal.sig) → Buf (Elt Ideal) ℓ)

/-- A layer that starts from one input on every device, each device holding its blocks of the weights, ends with the
    reference's layer on every device. -/
theorem tOf_eq (X : Dev KernelIdeal.nD → FVec Ideal KernelIdeal.S256x256 .bf16) (X₀ : FVec Ideal ⟨2, ![256, 256]⟩ .f32) (hX : ∀ d, X d = X₀) (k : Fin 3)
    (W1 : FVec Ideal ⟨2, ![256, 4096]⟩ .f32) (W2 : FVec Ideal ⟨2, ![4096, 256]⟩ .f32)
    (h1 : ∀ d, wIn m k d = Layout.block ⟨2, ![256, 512]⟩ ⟨2, ![256, 4096]⟩ 1 8 d W1)
    (h2 : ∀ d, wOut m k d = Layout.block ⟨2, ![512, 256]⟩ ⟨2, ![4096, 256]⟩ 0 8 d W2) (c : Dev KernelIdeal.nD) :
    tOf m X k c = refLay X₀ W1 W2 := by
  funext i
  refine ((accum_all (fun d => pOf m X k d) c i).trans (Finset.sum_congr rfl fun d _ => ?_)).trans (sum_lay X₀ W1 W2 i)
  show lay (X d) (wIn m k d) (wOut m k d) i = _
  rw [hX, h1, h2]

variable (m' : (ℓ : Loc ReferenceIdeal.nD ReferenceIdeal.τ ReferenceIdeal.sig) → Buf (Elt Ideal) ℓ)

/-- The reference's arguments. -/
abbrev arg (b : Ref ReferenceIdeal.sig .tc) : Buf (Elt Ideal) (((0 : Dev ReferenceIdeal.nD).tc : Thread ReferenceIdeal.nD ReferenceIdeal.τ).loc b) :=
  m' (((0 : Dev ReferenceIdeal.nD).tc : Thread ReferenceIdeal.nD ReferenceIdeal.τ).loc b)

/-- The reference's three layers. -/
def ref1 : FVec Ideal ⟨2, ![256, 256]⟩ .f32 := refLay (arg m' ReferenceIdeal.main_arg0) (arg m' ReferenceIdeal.main_arg1) (arg m' ReferenceIdeal.main_arg2)
def ref2 : FVec Ideal ⟨2, ![256, 256]⟩ .f32 := refLay (ref1 m') (arg m' ReferenceIdeal.main_arg3) (arg m' ReferenceIdeal.main_arg4)
def ref3 : FVec Ideal ⟨2, ![256, 256]⟩ .f32 := refLay (ref2 m') (arg m' ReferenceIdeal.main_arg5) (arg m' ReferenceIdeal.main_arg6)

/-- Every device holds its part of the reference's arguments: a copy of the first, a block of each of the others. -/
def Agree : Prop := ∀ c : Dev KernelIdeal.nD,
  m ((c.tc : Thread KernelIdeal.nD KernelIdeal.τ).loc KernelIdeal.main_arg0) = arg m' ReferenceIdeal.main_arg0
  ∧ m ((c.tc : Thread KernelIdeal.nD KernelIdeal.τ).loc KernelIdeal.main_arg1) = Layout.block ⟨2, ![256, 512]⟩ ⟨2, ![256, 4096]⟩ 1 8 c (arg m' ReferenceIdeal.main_arg1)
  ∧ m ((c.tc : Thread KernelIdeal.nD KernelIdeal.τ).loc KernelIdeal.main_arg2) = Layout.block ⟨2, ![512, 256]⟩ ⟨2, ![4096, 256]⟩ 0 8 c (arg m' ReferenceIdeal.main_arg2)
  ∧ m ((c.tc : Thread KernelIdeal.nD KernelIdeal.τ).loc KernelIdeal.main_arg3) = Layout.block ⟨2, ![256, 512]⟩ ⟨2, ![256, 4096]⟩ 1 8 c (arg m' ReferenceIdeal.main_arg3)
  ∧ m ((c.tc : Thread KernelIdeal.nD KernelIdeal.τ).loc KernelIdeal.main_arg4) = Layout.block ⟨2, ![512, 256]⟩ ⟨2, ![4096, 256]⟩ 0 8 c (arg m' ReferenceIdeal.main_arg4)
  ∧ m ((c.tc : Thread KernelIdeal.nD KernelIdeal.τ).loc KernelIdeal.main_arg5) = Layout.block ⟨2, ![256, 512]⟩ ⟨2, ![256, 4096]⟩ 1 8 c (arg m' ReferenceIdeal.main_arg5)
  ∧ m ((c.tc : Thread KernelIdeal.nD KernelIdeal.τ).loc KernelIdeal.main_arg6) = Layout.block ⟨2, ![512, 256]⟩ ⟨2, ![4096, 256]⟩ 0 8 c (arg m' ReferenceIdeal.main_arg6)

variable {m m'}

theorem x0_eq (h : Agree m m') (c : Dev KernelIdeal.nD) : x0 m c = (arg m' ReferenceIdeal.main_arg0 : FVec Ideal ⟨2, ![256, 256]⟩ .f32) :=
  (shapeCast_self (s := KernelIdeal.S256x256) (stg0 m c) _).trans ((stg0_eq m c).trans (h c).1)

/-- The first layer's total, -/
theorem total0 (h : Agree m m') (c : Dev KernelIdeal.nD) : tOf m (x0 m) 0 c = ref1 m' :=
  tOf_eq m (x0 m) _ (x0_eq h) 0 _ _ (fun d => (stg1_eq m d).trans (h d).2.1) (fun d => (stg2_eq m d).trans (h d).2.2.1) c

/-- the second's, -/
theorem total1 (h : Agree m m') (c : Dev KernelIdeal.nD) : tOf m (x1 m) 1 c = ref2 m' :=
  tOf_eq m (x1 m) _ (fun d => total0 h d) 1 _ _ (fun d => (stg3_eq m d).trans (h d).2.2.2.1) (fun d => (stg4_eq m d).trans (h d).2.2.2.2.1) c

/-- and the third's: the kernel's result on every device. -/
theorem total2 (h : Agree m m') (c : Dev KernelIdeal.nD) : tOf m (x2 m) 2 c = ref3 m' :=
  tOf_eq m (x2 m) _ (fun d => total1 h d) 2 _ _ (fun d => (stg5_eq m d).trans (h d).2.2.2.2.2.1) (fun d => (stg6_eq m d).trans (h d).2.2.2.2.2.2) c

end Layers

/-! ## The claim -/

/-- Over the extended reals every device's result is the reference's result of the whole arrays. -/
theorem algebraic : Cert.algebraic_KernelIdeal_ReferenceIdeal := by
  intro m ρ m' ρ' _ hagree
  refine ⟨ref3 m', ?_, ?_⟩
  · exact (θ_run KernelIdeal.defs _ _).mono
      (fun _ h c => ⟨(h.1 c 7).trans ((finalA_out m ρ c).trans (total2 hagree c)), kept_of m ρ h.1 c⟩)
      (run_main (F := Ideal) m ρ)
  · exact (θ_run ReferenceIdeal.defs _ _).mono (fun _ h => h 0) (ReferenceIdeal.Value.run (F := Ideal) m' ρ')

end Cert.AllGather

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllGather.frame_kernel, Cert.AllGather.frame_kernelIdeal, Cert.AllGather.frame_referenceIdeal, trivial,
  Cert.AllGather.algebraic⟩

end Cert.Proof

end
